-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v104)) (v2 : (c : Dev Cert.KernelIdeal.nD) → Buf (Elt Ideal) ((c.tc : Thread Cert.KernelIdeal.nD Cert.KernelIdeal.τ).loc Cert.KernelIdeal.main_v99)) (v3 : (c : Dev Cert.KernelIdeal.nD) → Buf (Elt Ideal) ((c.tc : Thread Cert.KernelIdeal.nD Cert.KernelIdeal.τ).loc Cert.KernelIdeal.main_v105)) (v4 : (c : Dev Cert.KernelIdeal.nD) → Buf (Elt Ideal) ((c.tc : Thread Cert.KernelIdeal.nD Cert.KernelIdeal.τ).loc Cert.KernelIdeal.main_v24)) (v5 : (c : Dev Cert.KernelIdeal.nD) → Buf (Elt Ideal) ((c.tc : Thread Cert.KernelIdeal.nD Cert.KernelIdeal.τ).loc Cert.KernelIdeal.main_v86_0)) (v6 : (c : Dev Cert.KernelIdeal.nD) → Buf (Elt Ideal) ((c.tc : Thread Cert.KernelIdeal.nD Cert.KernelIdeal.τ).loc Cert.KernelIdeal.main_v52)) (v7 : (c : Dev Cert.KernelIdeal.nD) → Buf (Elt Ideal) ((c.tc : Thread Cert.KernelIdeal.nD Cert.KernelIdeal.τ).loc Cert.KernelIdeal.main_v106)) (v8 : (c : Dev Cert.KernelIdeal.nD) → Buf (Elt Ideal) ((c.tc : Thread Cert.KernelIdeal.nD Cert.KernelIdeal.τ).loc Cert.KernelIdeal.main_v80)) (v9 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v104) = v1 c
          ∧ r.2.mem ((c.tc : Thread Cert.KernelIdeal.nD Cert.KernelIdeal.τ).loc Cert.KernelIdeal.main_v99) = v2 c
          ∧ r.2.mem ((c.tc : Thread Cert.KernelIdeal.nD Cert.KernelIdeal.τ).loc Cert.KernelIdeal.main_v105) = v3 c
          ∧ r.2.mem ((c.tc : Thread Cert.KernelIdeal.nD Cert.KernelIdeal.τ).loc Cert.KernelIdeal.main_v24) = v4 c
          ∧ r.2.mem ((c.tc : Thread Cert.KernelIdeal.nD Cert.KernelIdeal.τ).loc Cert.KernelIdeal.main_v86_0) = v5 c
          ∧ r.2.mem ((c.tc : Thread Cert.KernelIdeal.nD Cert.KernelIdeal.τ).loc Cert.KernelIdeal.main_v52) = v6 c
          ∧ r.2.mem ((c.tc : Thread Cert.KernelIdeal.nD Cert.KernelIdeal.τ).loc Cert.KernelIdeal.main_v106) = v7 c
          ∧ r.2.mem ((c.tc : Thread Cert.KernelIdeal.nD Cert.KernelIdeal.τ).loc Cert.KernelIdeal.main_v80) = v8 c
          ∧ r.2.mem ((c.tc : Thread Cert.KernelIdeal.nD Cert.KernelIdeal.τ).loc Cert.KernelIdeal.main_v102) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63_0) = v0 c
          ∧ r.2.mem ((c.tc : Thread Cert.ReferenceIdeal.nD Cert.ReferenceIdeal.τ).loc Cert.ReferenceIdeal.main_v63_1) = v1 c
          ∧ r.2.mem ((c.tc : Thread Cert.ReferenceIdeal.nD Cert.ReferenceIdeal.τ).loc Cert.ReferenceIdeal.main_v63_2) = v2 c
          ∧ r.2.mem ((c.tc : Thread Cert.ReferenceIdeal.nD Cert.ReferenceIdeal.τ).loc Cert.ReferenceIdeal.main_v63_3) = v3 c
          ∧ r.2.mem ((c.tc : Thread Cert.ReferenceIdeal.nD Cert.ReferenceIdeal.τ).loc Cert.ReferenceIdeal.main_v12) = v4 c
          ∧ r.2.mem ((c.tc : Thread Cert.ReferenceIdeal.nD Cert.ReferenceIdeal.τ).loc Cert.ReferenceIdeal.main_v63_4) = v5 c
          ∧ r.2.mem ((c.tc : Thread Cert.ReferenceIdeal.nD Cert.ReferenceIdeal.τ).loc Cert.ReferenceIdeal.main_v24) = v6 c
          ∧ r.2.mem ((c.tc : Thread Cert.ReferenceIdeal.nD Cert.ReferenceIdeal.τ).loc Cert.ReferenceIdeal.main_v63_5) = v7 c
          ∧ r.2.mem ((c.tc : Thread Cert.ReferenceIdeal.nD Cert.ReferenceIdeal.τ).loc Cert.ReferenceIdeal.main_v36) = v8 c
          ∧ r.2.mem ((c.tc : Thread Cert.ReferenceIdeal.nD Cert.ReferenceIdeal.τ).loc Cert.ReferenceIdeal.main_v52) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x6144x3200 : Shape := ⟨3, ![4, 6144, 3200]⟩
abbrev S2560x3200 : Shape := ⟨2, ![2560, 3200]⟩
abbrev S4x6144x2560 : Shape := ⟨3, ![4, 6144, 2560]⟩
abbrev S3x16 : Shape := ⟨2, ![3, 16]⟩
abbrev S_ : Shape := ⟨0, ![]⟩
abbrev S3 : Shape := ⟨1, ![3]⟩
abbrev S1 : Shape := ⟨1, ![1]⟩
abbrev S252 : Shape := ⟨1, ![252]⟩
abbrev S1x1 : Shape := ⟨2, ![1, 1]⟩
abbrev S256x3200 : Shape := ⟨2, ![256, 3200]⟩
abbrev S3200 : Shape := ⟨1, ![3200]⟩
abbrev S1x3200 : Shape := ⟨2, ![1, 3200]⟩
abbrev S24576x3200 : Shape := ⟨2, ![24576, 3200]⟩
abbrev S24576x2560 : Shape := ⟨2, ![24576, 2560]⟩
abbrev S4 : Shape := ⟨1, ![4]⟩
abbrev S256x2560 : Shape := ⟨2, ![256, 2560]⟩
abbrev S2560 : Shape := ⟨1, ![2560]⟩
abbrev S1x2560 : Shape := ⟨2, ![1, 2560]⟩
abbrev S1024x1280 : Shape := ⟨2, ![1024, 1280]⟩
abbrev S1024x3200 : Shape := ⟨2, ![1024, 3200]⟩
abbrev S1280x3200 : Shape := ⟨2, ![1280, 3200]⟩
abbrev S3x1 : Shape := ⟨2, ![3, 1]⟩
abbrev S3x15 : Shape := ⟨2, ![3, 15]⟩

abbrev nBuf : Space → Nat
  | .hbm => 163
  | .vmem => 26
  | .smem => 3
  | _ => 0

abbrev hbmTy0_0 (i : Nat) : BufTy := match i % 128 with
  | 0 => ⟨S4x6144x3200, .bf16⟩
  | 1 => ⟨S2560x3200, .bf16⟩
  | 2 => ⟨S4x6144x2560, .bf16⟩
  | 3 => ⟨S3x16, .f32⟩
  | 4 => ⟨S_, .f32⟩
  | 5 => ⟨S3, .f32⟩
  | 6 => ⟨S1, .f32⟩
  | 7 => ⟨S_, .f32⟩
  | 8 => ⟨S_, .f32⟩
  | 9 => ⟨S_, .f32⟩
  | 10 => ⟨S_, .f32⟩
  | 11 => ⟨S252, .i32⟩
  | 12 => ⟨S_, .i32⟩
  | 13 => ⟨S252, .i32⟩
  | 14 => ⟨S252, .i32⟩
  | 15 => ⟨S_, .i32⟩
  | 16 => ⟨S252, .i32⟩
  | 17 => ⟨S252, .i32⟩
  | 18 => ⟨S252, .f32⟩
  | 19 => ⟨S252, .f32⟩
  | 20 => ⟨S252, .i1⟩
  | 21 => ⟨S252, .i32⟩
  | 22 => ⟨S_, .i32⟩
  | 23 => ⟨S_, .i32⟩
  | 24 => ⟨S_, .i32⟩
  | 25 => ⟨S_, .i32⟩
  | 26 => ⟨S_, .f32⟩
  | 27 => ⟨S_, .i1⟩
  | 28 => ⟨S_, .f32⟩
  | 29 => ⟨S_, .i1⟩
  | 30 => ⟨S_, .i1⟩
  | 31 => ⟨S_, .i32⟩
  | 32 => ⟨S_, .i32⟩
  | 33 => ⟨S_, .f32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .f32⟩
  | 43 => ⟨S_, .i32⟩
  | 44 => ⟨S_, .i32⟩
  | 45 => ⟨S_, .i32⟩
  | 46 => ⟨S_, .i32⟩
  | 47 => ⟨S_, .i32⟩
  | 48 => ⟨S_, .f32⟩
  | 49 => ⟨S1, .f32⟩
  | 50 => ⟨S_, .f32⟩
  | 51 => ⟨S_, .f32⟩
  | 52 => ⟨S_, .f32⟩
  | 53 => ⟨S_, .f32⟩
  | 54 => ⟨S252, .i32⟩
  | 55 => ⟨S_, .i32⟩
  | 56 => ⟨S252, .i32⟩
  | 57 => ⟨S252, .i32⟩
  | 58 => ⟨S_, .i32⟩
  | 59 => ⟨S252, .i32⟩
  | 60 => ⟨S252, .i32⟩
  | 61 => ⟨S252, .f32⟩
  | 62 => ⟨S252, .f32⟩
  | 63 => ⟨S252, .i1⟩
  | 64 => ⟨S252, .i32⟩
  | 65 => ⟨S_, .i32⟩
  | 66 => ⟨S_, .i32⟩
  | 67 => ⟨S_, .i32⟩
  | 68 => ⟨S_, .i32⟩
  | 69 => ⟨S_, .f32⟩
  | 70 => ⟨S_, .i1⟩
  | 71 => ⟨S_, .f32⟩
  | 72 => ⟨S_, .i1⟩
  | 73 => ⟨S_, .i1⟩
  | 74 => ⟨S_, .i32⟩
  | 75 => ⟨S_, .i32⟩
  | 76 => ⟨S_, .f32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .f32⟩
  | 86 => ⟨S_, .i32⟩
  | 87 => ⟨S_, .i32⟩
  | 88 => ⟨S_, .i32⟩
  | 89 => ⟨S_, .i32⟩
  | 90 => ⟨S_, .i32⟩
  | 91 => ⟨S_, .f32⟩
  | 92 => ⟨S1, .f32⟩
  | 93 => ⟨S_, .f32⟩
  | 94 => ⟨S_, .f32⟩
  | 95 => ⟨S_, .f32⟩
  | 96 => ⟨S_, .f32⟩
  | 97 => ⟨S252, .i32⟩
  | 98 => ⟨S_, .i32⟩
  | 99 => ⟨S252, .i32⟩
  | 100 => ⟨S252, .i32⟩
  | 101 => ⟨S_, .i32⟩
  | 102 => ⟨S252, .i32⟩
  | 103 => ⟨S252, .i32⟩
  | 104 => ⟨S252, .f32⟩
  | 105 => ⟨S252, .f32⟩
  | 106 => ⟨S252, .i1⟩
  | 107 => ⟨S252, .i32⟩
  | 108 => ⟨S_, .i32⟩
  | 109 => ⟨S_, .i32⟩
  | 110 => ⟨S_, .i32⟩
  | 111 => ⟨S_, .i32⟩
  | 112 => ⟨S_, .f32⟩
  | 113 => ⟨S_, .i1⟩
  | 114 => ⟨S_, .f32⟩
  | 115 => ⟨S_, .i1⟩
  | 116 => ⟨S_, .i1⟩
  | 117 => ⟨S_, .i32⟩
  | 118 => ⟨S_, .i32⟩
  | 119 => ⟨S_, .f32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S4x6144x3200, .bf16⟩

abbrev hbmTy0_1 (i : Nat) : BufTy := match i % 128 with
  | 0 => ⟨S_, .f32⟩
  | 1 => ⟨S_, .i32⟩
  | 2 => ⟨S_, .i32⟩
  | 3 => ⟨S_, .i32⟩
  | 4 => ⟨S_, .i32⟩
  | 5 => ⟨S_, .i32⟩
  | 6 => ⟨S_, .f32⟩
  | 7 => ⟨S1, .f32⟩
  | 8 => ⟨S2560x3200, .fp8e4m3⟩
  | 9 => ⟨S1x1, .f32⟩
  | 10 => ⟨S24576x3200, .bf16⟩
  | 11 => ⟨S24576x2560, .bf16⟩
  | 12 => ⟨S_, .f32⟩
  | 13 => ⟨S_, .f32⟩
  | 14 => ⟨S1, .f32⟩
  | 15 => ⟨S1, .f32⟩
  | 16 => ⟨S1, .f32⟩
  | 17 => ⟨S1, .f32⟩
  | 18 => ⟨S4, .f32⟩
  | 19 => ⟨S24576x3200, .fp8e4m3⟩
  | 20 => ⟨S24576x2560, .fp8e5m2⟩
  | 21 => ⟨S24576x2560, .bf16⟩
  | 22 => ⟨S24576x3200, .bf16⟩
  | 23 => ⟨S1x1, .f32⟩
  | 24 => ⟨S1x1, .f32⟩
  | 25 => ⟨S_, .f32⟩
  | 26 => ⟨S1, .f32⟩
  | 27 => ⟨S2560x3200, .f32⟩
  | 28 => ⟨S3x1, .f32⟩
  | 29 => ⟨S3x15, .f32⟩
  | 30 => ⟨S3x16, .f32⟩
  | 31 => ⟨S4x6144x2560, .bf16⟩
  | 32 => ⟨S4x6144x3200, .bf16⟩
  | 33 => ⟨S4x6144x3200, .fp8e4m3⟩
  | 34 => ⟨S4x6144x2560, .fp8e5m2⟩
  | _ => ⟨S4x6144x3200, .bf16⟩

abbrev hbmTy (i : Nat) : BufTy := match i / 128 with
  | 0 => hbmTy0_0 i
  | 1 => hbmTy0_1 i
  | _ => ⟨S4x6144x3200, .bf16⟩

abbrev bufTy : (tb : Table) → Fin (tcTables nBuf tb) → BufTy
  | .hbm, ⟨i, _⟩ => hbmTy i
  | .local _ .vmem, ⟨0, _⟩ => ⟨S256x3200, .bf16⟩
  | .local _ .vmem, ⟨1, _⟩ => ⟨S256x3200, .bf16⟩
  | .local _ .vmem, ⟨2, _⟩ => ⟨S256x3200, .fp8e4m3⟩
  | .local _ .vmem, ⟨3, _⟩ => ⟨S256x3200, .fp8e4m3⟩
  | .local _ .vmem, ⟨4, _⟩ => ⟨S1x1, .f32⟩
  | .local _ .vmem, ⟨5, _⟩ => ⟨S256x3200, .bf16⟩
  | .local _ .vmem, ⟨6, _⟩ => ⟨S256x3200, .bf16⟩
  | .local _ .vmem, ⟨7, _⟩ => ⟨S256x2560, .bf16⟩
  | .local _ .vmem, ⟨8, _⟩ => ⟨S256x2560, .bf16⟩
  | .local _ .vmem, ⟨9, _⟩ => ⟨S2560x3200, .fp8e4m3⟩
  | .local _ .vmem, ⟨10, _⟩ => ⟨S256x3200, .fp8e4m3⟩
  | .local _ .vmem, ⟨11, _⟩ => ⟨S256x3200, .fp8e4m3⟩
  | .local _ .vmem, ⟨12, _⟩ => ⟨S256x2560, .fp8e5m2⟩
  | .local _ .vmem, ⟨13, _⟩ => ⟨S256x2560, .fp8e5m2⟩
  | .local _ .vmem, ⟨14, _⟩ => ⟨S256x2560, .bf16⟩
  | .local _ .vmem, ⟨15, _⟩ => ⟨S256x2560, .bf16⟩
  | .local _ .vmem, ⟨16, _⟩ => ⟨S256x3200, .bf16⟩
  | .local _ .vmem, ⟨17, _⟩ => ⟨S256x3200, .bf16⟩
  | .local _ .vmem, ⟨18, _⟩ => ⟨S1x1, .f32⟩
  | .local _ .vmem, ⟨19, _⟩ => ⟨S1x1, .f32⟩
  | .local _ .vmem, ⟨20, _⟩ => ⟨S1024x1280, .fp8e5m2⟩
  | .local _ .vmem, ⟨21, _⟩ => ⟨S1024x1280, .fp8e5m2⟩
  | .local _ .vmem, ⟨22, _⟩ => ⟨S1024x3200, .fp8e4m3⟩
  | .local _ .vmem, ⟨23, _⟩ => ⟨S1024x3200, .fp8e4m3⟩
  | .local _ .vmem, ⟨24, _⟩ => ⟨S1280x3200, .f32⟩
  | .local _ .vmem, ⟨25, _⟩ => ⟨S1280x3200, .f32⟩
  | .local _ .smem, ⟨0, _⟩ => ⟨S1, .f32⟩
  | .local _ .smem, ⟨1, _⟩ => ⟨S4, .f32⟩
  | .local _ .smem, ⟨2, _⟩ => ⟨S1, .f32⟩
  | _, _ => ⟨S4x6144x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_c_8 : Ref sig .tc := ⟨.hbm, 35, rfl⟩
abbrev main_call0_v0 : Ref sig .tc := ⟨.hbm, 36, rfl⟩
abbrev main_v21 : Ref sig .tc := ⟨.hbm, 37, rfl⟩
abbrev main_c_9 : Ref sig .tc := ⟨.hbm, 38, rfl⟩
abbrev main_v22 : Ref sig .tc := ⟨.hbm, 39, rfl⟩
abbrev main_c_10 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_11 : Ref sig .tc := ⟨.hbm, 44, rfl⟩
abbrev main_v26 : Ref sig .tc := ⟨.hbm, 45, rfl⟩
abbrev main_c_12 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_13 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_14 : Ref sig .tc := ⟨.hbm, 55, rfl⟩
abbrev main_v34 : Ref sig .tc := ⟨.hbm, 56, rfl⟩
abbrev main_v35 : Ref sig .tc := ⟨.hbm, 57, rfl⟩
abbrev main_c_15 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_16 : Ref sig .tc := ⟨.hbm, 65, rfl⟩
abbrev main_v42 : Ref sig .tc := ⟨.hbm, 66, rfl⟩
abbrev main_c_17 : Ref sig .tc := ⟨.hbm, 67, rfl⟩
abbrev main_v43 : Ref sig .tc := ⟨.hbm, 68, rfl⟩
abbrev main_cst_18 : Ref sig .tc := ⟨.hbm, 69, rfl⟩
abbrev main_v44 : Ref sig .tc := ⟨.hbm, 70, rfl⟩
abbrev main_cst_19 : Ref sig .tc := ⟨.hbm, 71, rfl⟩
abbrev main_v45 : Ref sig .tc := ⟨.hbm, 72, rfl⟩
abbrev main_v46 : Ref sig .tc := ⟨.hbm, 73, rfl⟩
abbrev main_c_20 : Ref sig .tc := ⟨.hbm, 74, rfl⟩
abbrev main_v47 : Ref sig .tc := ⟨.hbm, 75, rfl⟩
abbrev main_cst_21 : Ref sig .tc := ⟨.hbm, 76, rfl⟩
abbrev main_v48 : Ref sig .tc := ⟨.hbm, 77, rfl⟩
abbrev main_c_22 : Ref sig .tc := ⟨.hbm, 78, rfl⟩
abbrev main_call1_v0 : Ref sig .tc := ⟨.hbm, 79, rfl⟩
abbrev main_v49 : Ref sig .tc := ⟨.hbm, 80, rfl⟩
abbrev main_c_23 : Ref sig .tc := ⟨.hbm, 81, rfl⟩
abbrev main_v50 : Ref sig .tc := ⟨.hbm, 82, rfl⟩
abbrev main_c_24 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_25 : Ref sig .tc := ⟨.hbm, 87, rfl⟩
abbrev main_v54 : Ref sig .tc := ⟨.hbm, 88, rfl⟩
abbrev main_c_26 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_27 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_28 : Ref sig .tc := ⟨.hbm, 98, rfl⟩
abbrev main_v62 : Ref sig .tc := ⟨.hbm, 99, rfl⟩
abbrev main_v63 : Ref sig .tc := ⟨.hbm, 100, rfl⟩
abbrev main_c_29 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_30 : Ref sig .tc := ⟨.hbm, 108, rfl⟩
abbrev main_v70 : Ref sig .tc := ⟨.hbm, 109, rfl⟩
abbrev main_c_31 : Ref sig .tc := ⟨.hbm, 110, rfl⟩
abbrev main_v71 : Ref sig .tc := ⟨.hbm, 111, rfl⟩
abbrev main_cst_32 : Ref sig .tc := ⟨.hbm, 112, rfl⟩
abbrev main_v72 : Ref sig .tc := ⟨.hbm, 113, rfl⟩
abbrev main_cst_33 : Ref sig .tc := ⟨.hbm, 114, rfl⟩
abbrev main_v73 : Ref sig .tc := ⟨.hbm, 115, rfl⟩
abbrev main_v74 : Ref sig .tc := ⟨.hbm, 116, rfl⟩
abbrev main_c_34 : Ref sig .tc := ⟨.hbm, 117, rfl⟩
abbrev main_v75 : Ref sig .tc := ⟨.hbm, 118, rfl⟩
abbrev main_cst_35 : Ref sig .tc := ⟨.hbm, 119, rfl⟩
abbrev main_v76 : Ref sig .tc := ⟨.hbm, 120, rfl⟩
abbrev main_c_36 : Ref sig .tc := ⟨.hbm, 121, rfl⟩
abbrev main_call2_v0 : Ref sig .tc := ⟨.hbm, 122, rfl⟩
abbrev main_v77 : Ref sig .tc := ⟨.hbm, 123, rfl⟩
abbrev main_c_37 : Ref sig .tc := ⟨.hbm, 124, rfl⟩
abbrev main_v78 : Ref sig .tc := ⟨.hbm, 125, rfl⟩
abbrev main_c_38 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_c_39 : Ref sig .tc := ⟨.hbm, 130, rfl⟩
abbrev main_v82 : Ref sig .tc := ⟨.hbm, 131, rfl⟩
abbrev main_c_40 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86_0 : Ref sig .tc := ⟨.hbm, 136, rfl⟩
abbrev main_v86_1 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96_0 : Ref sig .tc := ⟨.hbm, 147, rfl⟩
abbrev main_v96_1 : Ref sig .tc := ⟨.hbm, 148, rfl⟩
abbrev main_v96_2 : Ref sig .tc := ⟨.hbm, 149, rfl⟩
abbrev main_v96_3 : Ref sig .tc := ⟨.hbm, 150, rfl⟩
abbrev main_v96_4 : Ref sig .tc := ⟨.hbm, 151, rfl⟩
abbrev main_v96_5 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3200 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![96], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x3200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2560 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2560x3200 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x3200 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2560 .fp8e5m2 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2560 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x3200 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨2, ![2, 24], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x1280 .fp8e5m2 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x3200 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1280x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]
-- ==== ReferenceIdeal.lean ====
abbrev S4x6144x3200 : Shape := ⟨3, ![4, 6144, 3200]⟩
abbrev S2560x3200 : Shape := ⟨2, ![2560, 3200]⟩
abbrev S4x6144x2560 : Shape := ⟨3, ![4, 6144, 2560]⟩
abbrev S3x16 : Shape := ⟨2, ![3, 16]⟩
abbrev S252 : Shape := ⟨1, ![252]⟩
abbrev S_ : Shape := ⟨0, ![]⟩
abbrev S3 : Shape := ⟨1, ![3]⟩
abbrev S1 : Shape := ⟨1, ![1]⟩
abbrev S3x1 : Shape := ⟨2, ![3, 1]⟩
abbrev S3x15 : Shape := ⟨2, ![3, 15]⟩
abbrev S6 : Shape := ⟨1, ![6]⟩
abbrev S24576x3200 : Shape := ⟨2, ![24576, 3200]⟩
abbrev S24576x2560 : Shape := ⟨2, ![24576, 2560]⟩

abbrev nBuf : Space → Nat
  | .hbm => 101
  | .vmem => 9
  | .smem => 1
  | _ => 0

abbrev bufTy : (tb : Table) → Fin (tcTables nBuf tb) → BufTy
  | .hbm, ⟨0, _⟩ => ⟨S4x6144x3200, .bf16⟩
  | .hbm, ⟨1, _⟩ => ⟨S2560x3200, .bf16⟩
  | .hbm, ⟨2, _⟩ => ⟨S4x6144x2560, .bf16⟩
  | .hbm, ⟨3, _⟩ => ⟨S3x16, .f32⟩
  | .hbm, ⟨4, _⟩ => ⟨S252, .f32⟩
  | .hbm, ⟨5, _⟩ => ⟨S252, .f32⟩
  | .hbm, ⟨6, _⟩ => ⟨S252, .f32⟩
  | .hbm, ⟨7, _⟩ => ⟨S252, .f32⟩
  | .hbm, ⟨8, _⟩ => ⟨S252, .f32⟩
  | .hbm, ⟨9, _⟩ => ⟨S252, .f32⟩
  | .hbm, ⟨10, _⟩ => ⟨S_, .f32⟩
  | .hbm, ⟨11, _⟩ => ⟨S3, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S252, .f32⟩
  | .hbm, ⟨18, _⟩ => ⟨S252, .i1⟩
  | .hbm, ⟨19, _⟩ => ⟨S252, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i1⟩
  | .hbm, ⟨24, _⟩ => ⟨S_, .f32⟩
  | .hbm, ⟨25, _⟩ => ⟨S_, .i1⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S252, .f32⟩
  | .hbm, ⟨35, _⟩ => ⟨S252, .i1⟩
  | .hbm, ⟨36, _⟩ => ⟨S252, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .i1⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S252, .f32⟩
  | .hbm, ⟨52, _⟩ => ⟨S252, .i1⟩
  | .hbm, ⟨53, _⟩ => ⟨S252, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .i1⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S4x6144x3200, .f32⟩
  | .hbm, ⟨64, _⟩ => ⟨S4x6144x3200, .f32⟩
  | .hbm, ⟨65, _⟩ => ⟨S_, .f32⟩
  | .hbm, ⟨66, _⟩ => ⟨S_, .f32⟩
  | .hbm, ⟨67, _⟩ => ⟨S2560x3200, .f32⟩
  | .hbm, ⟨68, _⟩ => ⟨S2560x3200, .f32⟩
  | .hbm, ⟨69, _⟩ => ⟨S_, .f32⟩
  | .hbm, ⟨70, _⟩ => ⟨S_, .f32⟩
  | .hbm, ⟨71, _⟩ => ⟨S4x6144x2560, .f32⟩
  | .hbm, ⟨72, _⟩ => ⟨S4x6144x2560, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S1, .f32⟩
  | .hbm, ⟨77, _⟩ => ⟨S1, .f32⟩
  | .hbm, ⟨78, _⟩ => ⟨S3, .f32⟩
  | .hbm, ⟨79, _⟩ => ⟨S3x1, .f32⟩
  | .hbm, ⟨80, _⟩ => ⟨S3x15, .f32⟩
  | .hbm, ⟨81, _⟩ => ⟨S3x16, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S1, .f32⟩
  | .hbm, ⟨89, _⟩ => ⟨S1, .f32⟩
  | .hbm, ⟨90, _⟩ => ⟨S1, .f32⟩
  | .hbm, ⟨91, _⟩ => ⟨S1, .f32⟩
  | .hbm, ⟨92, _⟩ => ⟨S1, .f32⟩
  | .hbm, ⟨93, _⟩ => ⟨S1, .f32⟩
  | .hbm, ⟨94, _⟩ => ⟨S6, .f32⟩
  | .hbm, ⟨95, _⟩ => ⟨S4x6144x2560, .bf16⟩
  | .hbm, ⟨96, _⟩ => ⟨S4x6144x3200, .bf16⟩
  | .hbm, ⟨97, _⟩ => ⟨S2560x3200, .f32⟩
  | .hbm, ⟨98, _⟩ => ⟨S4x6144x3200, .fp8e4m3⟩
  | .hbm, ⟨99, _⟩ => ⟨S2560x3200, .fp8e4m3⟩
  | .hbm, ⟨100, _⟩ => ⟨S4x6144x2560, .fp8e5m2⟩
  | .local _ .vmem, ⟨0, _⟩ => ⟨S4x6144x3200, .bf16⟩
  | .local _ .vmem, ⟨1, _⟩ => ⟨S2560x3200, .bf16⟩
  | .local _ .vmem, ⟨2, _⟩ => ⟨S4x6144x2560, .bf16⟩
  | .local _ .vmem, ⟨3, _⟩ => ⟨S4x6144x2560, .bf16⟩
  | .local _ .vmem, ⟨4, _⟩ => ⟨S4x6144x3200, .bf16⟩
  | .local _ .vmem, ⟨5, _⟩ => ⟨S2560x3200, .f32⟩
  | .local _ .vmem, ⟨6, _⟩ => ⟨S4x6144x3200, .fp8e4m3⟩
  | .local _ .vmem, ⟨7, _⟩ => ⟨S2560x3200, .fp8e4m3⟩
  | .local _ .vmem, ⟨8, _⟩ => ⟨S4x6144x2560, .fp8e5m2⟩
  | .local _ .smem, ⟨0, _⟩ => ⟨S6, .f32⟩
  | _, _ => ⟨S4x6144x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_cst_3 : Ref sig .tc := ⟨.hbm, 8, rfl⟩
abbrev main_cst_4 : Ref sig .tc := ⟨.hbm, 9, rfl⟩
abbrev main_cst_5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_6 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_7 : Ref sig .tc := ⟨.hbm, 20, rfl⟩
abbrev main_v8 : Ref sig .tc := ⟨.hbm, 21, rfl⟩
abbrev main_cst_8 : Ref sig .tc := ⟨.hbm, 22, rfl⟩
abbrev main_v9 : Ref sig .tc := ⟨.hbm, 23, rfl⟩
abbrev main_cst_9 : Ref sig .tc := ⟨.hbm, 24, rfl⟩
abbrev main_v10 : Ref sig .tc := ⟨.hbm, 25, rfl⟩
abbrev main_v11 : Ref sig .tc := ⟨.hbm, 26, rfl⟩
abbrev main_cst_10 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_11 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_12 : Ref sig .tc := ⟨.hbm, 37, rfl⟩
abbrev main_v20 : Ref sig .tc := ⟨.hbm, 38, rfl⟩
abbrev main_cst_13 : Ref sig .tc := ⟨.hbm, 39, rfl⟩
abbrev main_v21 : Ref sig .tc := ⟨.hbm, 40, rfl⟩
abbrev main_cst_14 : Ref sig .tc := ⟨.hbm, 41, rfl⟩
abbrev main_v22 : Ref sig .tc := ⟨.hbm, 42, rfl⟩
abbrev main_v23 : Ref sig .tc := ⟨.hbm, 43, rfl⟩
abbrev main_cst_15 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_16 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_17 : Ref sig .tc := ⟨.hbm, 54, rfl⟩
abbrev main_v32 : Ref sig .tc := ⟨.hbm, 55, rfl⟩
abbrev main_cst_18 : Ref sig .tc := ⟨.hbm, 56, rfl⟩
abbrev main_v33 : Ref sig .tc := ⟨.hbm, 57, rfl⟩
abbrev main_cst_19 : Ref sig .tc := ⟨.hbm, 58, rfl⟩
abbrev main_v34 : Ref sig .tc := ⟨.hbm, 59, rfl⟩
abbrev main_v35 : Ref sig .tc := ⟨.hbm, 60, rfl⟩
abbrev main_cst_20 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_21 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_22 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_23 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_24 : Ref sig .tc := ⟨.hbm, 82, rfl⟩
abbrev main_v53 : Ref sig .tc := ⟨.hbm, 83, rfl⟩
abbrev main_cst_25 : Ref sig .tc := ⟨.hbm, 84, rfl⟩
abbrev main_v54 : Ref sig .tc := ⟨.hbm, 85, rfl⟩
abbrev main_cst_26 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63_0 : Ref sig .tc := ⟨.hbm, 95, rfl⟩
abbrev main_v63_1 : Ref sig .tc := ⟨.hbm, 96, rfl⟩
abbrev main_v63_2 : Ref sig .tc := ⟨.hbm, 97, rfl⟩
abbrev main_v63_3 : Ref sig .tc := ⟨.hbm, 98, rfl⟩
abbrev main_v63_4 : Ref sig .tc := ⟨.hbm, 99, rfl⟩
abbrev main_v63_5 : Ref sig .tc := ⟨.hbm, 100, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x6144x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x6144x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x6144x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x6144x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560x3200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x6144x3200 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560x3200 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x6144x2560 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelRun.lean ====
/-
  The kernel's run: every buffer the host program keeps ends with the contents the last boundary of the run names.
-/
module

public import proofs.«01_k».proof.Defs
public import proofs.«01_k».proof.Proof.Gen.KernelIdeal.Frame

@[expose] public section

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- From any memory with the semaphores at zero, every weakly fair execution of the program ends, and each buffer the
    host program keeps holds what the run's last boundary says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

end Cert.KernelIdeal.KernelRun

end
-- ==== Proof.Scale.lean ====
/-
  The quantisation scale over the extended reals. The kernel's host code reads the exponent of `v = |a · c|` by counting
  the powers of two that are at most `v`, and assembles the scale and its inverse from bit patterns. The reference takes
  the smallest power of two above `v` out of a table, and divides one by it. This module shows that the two agree.
-/
module

public import proofs.«01_k».proof.Defs
public import Idealize.ShloMosaic.Lib.ValueIdx
public import Idealize.ShloMosaic.PureOps.Reduce
public import Idealize.ShloMosaic.PureOps.Ideal.Laws

@[expose] public section

set_option maxRecDepth 16384

noncomputable section

namespace Cert.Scale

open Idealize.ShloMosaic Idealize.ShloMosaic.ValueIdx

/-- The shape of a scalar. -/
abbrev T0 : Shape := ⟨0, ![]⟩
/-- The shape of a vector of 252 entries, one per normal power of two. -/
abbrev T252 : Shape := ⟨1, ![252]⟩

/-- Two to the power `k`, as an extended real. -/
def pow2 (k : ℤ) : EReal := (((2 : ℝ) ^ k : ℝ) : EReal)

theorem pow2_le {j k : ℤ} : pow2 j ≤ pow2 k ↔ j ≤ k := by
  unfold pow2; rw [EReal.coe_le_coe_iff]; exact zpow_le_zpow_iff_right₀ (by norm_num)

theorem pow2_lt {j k : ℤ} : pow2 j < pow2 k ↔ j < k := by
  unfold pow2; rw [EReal.coe_lt_coe_iff]; exact zpow_lt_zpow_iff_right₀ (by norm_num)

theorem pow2_zero : pow2 0 = 1 := by simp [pow2]

/-- One divided by a power of two. -/
theorem div_pow2 (k : ℤ) : Ideal.div 1 (pow2 k) = pow2 (-k) := by
  have h : pow2 k ≠ 0 := by
    unfold pow2; rw [← EReal.coe_zero]; intro h
    exact (zpow_pos (by norm_num : (0 : ℝ) < 2) k).ne' (EReal.coe_eq_coe_iff.mp h)
  unfold Ideal.div
  rw [if_neg h, one_mul]; unfold pow2
  rw [← EReal.coe_inv, zpow_neg]

/-- The fields of the pattern with exponent field `n` and nothing else. -/
theorem fields : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- A word with a clear sign, exponent field `n` and an empty fraction is a power of two. -/
theorem ieee_pow2 (b : BitVec 32) (n : ℕ) (h1 : 1 ≤ n) (h2 : n ≤ 254) (f1 : (b.extractLsb' 31 1 == 1#1) = false)
    (f2 : (b.extractLsb' 23 8).toNat = n) (f3 : (b.extractLsb' 0 23).toNat = 0) : Ideal.ieee 8 23 b = pow2 (n - 127) := by
  unfold Ideal.ieee
  simp only [Nat.reduceAdd, f1, f2, f3]
  have e1 : ¬ n = 2 ^ 8 - 1 := by norm_num; omega
  have e2 : ¬ n = 0 := by omega
  rw [if_neg e1, if_neg e2]
  unfold pow2
  congr 1
  have e3 : (2 : ℝ) ^ (((n : ℕ) : ℤ) - (2 ^ (8 - 1) - 1) - ((23 : ℕ) : ℤ)) = 2 ^ ((n : ℤ) - 127) * ((2 : ℝ) ^ (23 : ℤ))⁻¹ := by
    rw [← zpow_neg, ← zpow_add₀ (by norm_num)]; congr 1
  rw [e3]
  norm_num
  field_simp

/-- The pattern with exponent field `n` is a power of two. -/
theorem ofBits_pow2 (n : ℕ) (h1 : 1 ≤ n) (h2 : n ≤ 254) : Ideal.ofBits .f32 (BitVec.ofNat 32 n <<< 23) = pow2 (n - 127) :=
  have f := fields ⟨n, by omega⟩
  ieee_pow2 _ n h1 h2 f.1 f.2.1 f.2.2

theorem bits_lo : Ideal.ofBits .f32 0x00800000#32 = pow2 (-126) :=
  (congrArg (Ideal.ofBits .f32) (by decide : 0x00800000#32 = BitVec.ofNat 32 1 <<< 23)).trans
    ((ofBits_pow2 1 (by omega) (by omega)).trans (by norm_num))
theorem bits_hi : Ideal.ofBits .f32 0x7E800000#32 = pow2 126 :=
  (congrArg (Ideal.ofBits .f32) (by decide : 0x7E800000#32 = BitVec.ofNat 32 253 <<< 23)).trans
    ((ofBits_pow2 253 (by omega) (by omega)).trans (by norm_num))
theorem bits_one : Ideal.ofBits .f32 0x3F800000#32 = pow2 0 :=
  (congrArg (Ideal.ofBits .f32) (by decide : 0x3F800000#32 = BitVec.ofNat 32 127 <<< 23)).trans
    ((ofBits_pow2 127 (by omega) (by omega)).trans (by norm_num))
theorem bits_zero : Ideal.ofBits .f32 0x00000000#32 = 0 := by simp [Ideal.ofBits, Ideal.ieee]
theorem bits_top : Ideal.ofBits .f32 0x7F800000#32 = ⊤ := by simp [Ideal.ofBits, Ideal.ieee]
theorem bits_bot : Ideal.ofBits .f32 0xFF800000#32 = ⊥ := by simp [Ideal.ofBits, Ideal.ieee]

/-- A value of the normal range lies between two neighbouring powers of two. -/
theorem bracket (v : EReal) (h1 : pow2 (-126) ≤ v) (h2 : v < pow2 126) :
    ∃ i : Fin 252, pow2 ((i.val : ℤ) - 126) ≤ v ∧ v < pow2 ((i.val : ℤ) - 125) := by
  have key : ∀ n : ℕ, n ≤ 252 → v < pow2 ((n : ℤ) - 126) → ∃ i : Fin 252, pow2 ((i.val : ℤ) - 126) ≤ v ∧ v < pow2 ((i.val : ℤ) - 125) := by
    intro n
    induction n with
    | zero => intro _ h; exact absurd h (not_lt.mpr h1)
    | succ n ih =>
      intro hn h
      by_cases hv : v < pow2 ((n : ℤ) - 126)
      · exact ih (by omega) hv
      · exact ⟨⟨n, by omega⟩, not_lt.mp hv, by rwa [show ((n : ℤ) - 125) = (((n + 1 : ℕ) : ℤ) - 126) by push_cast; ring]⟩
  exact key 252 le_rfl (by norm_num; exact h2)

/-- The comparisons as words. -/
theorem cmp_one (p : Prop) [Decidable p] : BitVec.ofBool (decide p) = 1#1 ↔ p := by
  by_cases h : p <;> simp [h]

theorem sum_words : ∀ i : Fin 252, (Finset.univ : Finset (Fin 252)).fold IntOp.addi 0#32 (fun k => if k.val ≤ i.val then 1#32 else 0#32)
    = BitVec.ofNat 32 (i.val + 1) := by decide +kernel

/-- A fold over the one-axis indices is a fold over the coordinate. -/
theorem fold_ix1 {α : Type} (f : α → α → α) [Std.Commutative f] [Std.Associative f] (z : α) (x : T252.Idx → α)
    (h : T252.ReducesTo [0] T0) (j : T0.Idx) :
    (Finset.univ.filter fun i => h.drop i = j).fold f z x = (Finset.univ : Finset (Fin 252)).fold f z (fun k => x (ix1 k)) := by
  have e : (Finset.univ.filter fun i => h.drop i = j) = (Finset.univ : Finset (Fin 252)).image (fun k => (ix1 k : T252.Idx)) := by
    ext i
    simp only [Finset.mem_filter, Finset.mem_univ, true_and, Finset.mem_image]
    exact ⟨fun _ => ⟨i 0, (eq_ix1 i).symm⟩, fun _ => funext fun a => a.elim0⟩
  rw [e, Finset.fold_image fun a _ b _ hab => congrFun hab 0]
  rfl

/-- Counting the set bits of a mask that holds on the first `i + 1` entries. -/
theorem count_eq (msk : IVec T252 1) (i : Fin 252) (hm : ∀ k : Fin 252, msk (ix1 k) = 1#1 ↔ k.val ≤ i.val) (hw : 1 < 32)
    (h : T252.ReducesTo [0] T0) (hu : 0 < T0.numel) (j : T0.Idx) :
    Host.reduce IntOp.addi (extui 32 msk hw) (constantI T0 32 0#32) h hu j = BitVec.ofNat 32 (i.val + 1) := by
  rw [Host.reduce_eq_fold, fold_ix1, ← sum_words i]
  refine Finset.fold_congr fun k _ => ?_
  show (msk (ix1 k)).setWidth 32 = _
  by_cases hk : k.val ≤ i.val
  · rw [if_pos hk, (hm k).mpr hk]; rfl
  · rw [if_neg hk, (by decide : ∀ b : BitVec 1, b ≠ 1#1 → b = 0#1) _ fun h => hk ((hm k).mp h)]; rfl

section Chains
variable (hb : T0.BroadcastsInDim T252 (![] : Fin 0 → Fin T252.rank)) (h : T252.ReducesTo [0] T0) (hu : 0 < T0.numel) (hw : 1 < 32)

/-- The magnitude both sides read the scale from. -/
def mag (a : FVec Ideal T0 .f32) (c : BitVec 32) : FVec Ideal T0 .f32 := Host.absf (mulf a (constant T0 .f32 c))

/-- The test that the magnitude is in the normal range. -/
def inRange (v : FVec Ideal T0 .f32) : IVec T0 1 :=
  andi (cmpf .oge v (constant T0 .f32 0x00800000#32)) (cmpf .olt v (constant T0 .f32 0x7E800000#32))

/-- The kernel's thresholds, by their bit patterns. -/
def thresholds : FVec Ideal T252 .f32 :=
  bitcastToFloat .f32 (Host.shli (addi (iotaInDim T252 32 0) (broadcastInDim T252 ![] hb (constantI T0 32 1#32)))
    (broadcastInDim T252 ![] hb (constantI T0 32 23#32)))

/-- The kernel's exponent, before the test for a zero maximum. -/
def rawExp (v : FVec Ideal T0 .f32) : IVec T0 32 :=
  select (inRange v)
    (subi (Host.reduce IntOp.addi (extui 32 (cmpf .ole (thresholds hb) (broadcastInDim T252 ![] hb v)) hw) (constantI T0 32 0#32) h hu)
      (constantI T0 32 126#32)) (constantI T0 32 0#32)

/-- The kernel's exponent. -/
def kExp (a : FVec Ideal T0 .f32) (c : BitVec 32) : IVec T0 32 :=
  select (cmpf .oeq a (constant T0 .f32 0x00000000#32)) (constantI T0 32 0#32) (rawExp hb h hu hw (mag a c))

/-- The kernel's scale out of the exponent. -/
def kScale (e : IVec T0 32) : FVec Ideal T0 .f32 := bitcastToFloat .f32 (Host.shli (addi e (constantI T0 32 127#32)) (constantI T0 32 23#32))
/-- The kernel's inverse scale out of the exponent. -/
def kInv (e : IVec T0 32) : FVec Ideal T0 .f32 := bitcastToFloat .f32 (Host.shli (addi (negi e) (constantI T0 32 127#32)) (constantI T0 32 23#32))

/-- The reference's scale: the least entry of the table above the magnitude. -/
def rScale (P : FVec Ideal T252 .f32) (a : FVec Ideal T0 .f32) (c : BitVec 32) : FVec Ideal T0 .f32 :=
  select (inRange (mag a c))
    (Host.reduce FloatOps.minimumf (select (cmpf .olt (broadcastInDim T252 ![] hb (mag a c)) P) P (constant T252 .f32 0x7F800000#32))
      (constant T0 .f32 0x7F800000#32) h hu) (constant T0 .f32 0x3F800000#32)

theorem inRange_iff (v : FVec Ideal T0 .f32) (j : T0.Idx) : inRange v j = 1#1 ↔ pow2 (-126) ≤ v j ∧ v j < pow2 126 := by
  have e : inRange v j = BitVec.ofBool (decide (Ideal.ofBits .f32 0x00800000#32 ≤ v j)) &&& BitVec.ofBool (decide (v j < Ideal.ofBits .f32 0x7E800000#32)) := rfl
  rw [e, bits_lo, bits_hi]
  by_cases h1 : pow2 (-126) ≤ v j <;> by_cases h2 : v j < pow2 126 <;> simp [h1, h2]

theorem words_scale : ∀ i : Fin 252, IntOp.shli .host ((BitVec.ofNat 32 (i.val + 1) - 126#32) + 127#32) 23#32 = BitVec.ofNat 32 (i.val + 2) <<< 23 := by
  decide +kernel
theorem words_inv : ∀ i : Fin 252, IntOp.shli .host (-(BitVec.ofNat 32 (i.val + 1) - 126#32) + 127#32) 23#32 = BitVec.ofNat 32 (252 - i.val) <<< 23 := by
  decide +kernel
theorem words_thr : ∀ k : Fin 252, IntOp.shli .host (BitVec.ofNat 32 k.val + 1#32) 23#32 = BitVec.ofNat 32 (k.val + 1) <<< 23 := by
  decide +kernel

theorem thresholds_apply (k : Fin 252) : thresholds hb (ix1 k) = pow2 ((k.val : ℤ) - 126) := by
  have e : thresholds hb (ix1 k) = Ideal.ofBits .f32 (IntOp.shli .host (BitVec.ofNat 32 k.val + 1#32) 23#32) := rfl
  rw [e, words_thr, ofBits_pow2 _ (by omega) (by omega)]
  congr 1; push_cast; ring

/-- In the normal range the exponent is read off the bracket. -/
theorem rawExp_in (v : FVec Ideal T0 .f32) (j : T0.Idx) (i : Fin 252) (h1 : pow2 ((i.val : ℤ) - 126) ≤ v j) (h2 : v j < pow2 ((i.val : ℤ) - 125))
    (hr : inRange v j = 1#1) : rawExp hb h hu hw v j = BitVec.ofNat 32 (i.val + 1) - 126#32 := by
  show Scalar.select (inRange v j) (_ - 126#32) _ = _
  rw [hr]
  refine (if_pos rfl).trans (congrArg (· - 126#32) ?_)
  refine count_eq _ i (fun k => ?_) hw h hu j
  have e : cmpf .ole (thresholds hb) (broadcastInDim T252 ![] hb v) (ix1 k) = BitVec.ofBool (decide (thresholds hb (ix1 k) ≤ v j)) :=
    congrArg (fun q => BitVec.ofBool (decide (thresholds hb (ix1 k) ≤ v q))) (funext fun a => a.elim0)
  rw [e, thresholds_apply, cmp_one]
  constructor
  · intro hk; have := pow2_lt.mp (lt_of_le_of_lt hk h2); omega
  · intro hk; exact (pow2_le.mpr (by omega)).trans h1

theorem rawExp_out (v : FVec Ideal T0 .f32) (j : T0.Idx) (hr : ¬ inRange v j = 1#1) : rawExp hb h hu hw v j = 0#32 :=
  if_neg hr

/-- The test for a zero maximum changes nothing: zero is below the normal range. -/
theorem kExp_eq (a : FVec Ideal T0 .f32) (c : BitVec 32) (j : T0.Idx) : kExp hb h hu hw a c j = rawExp hb h hu hw (mag a c) j := by
  have e : kExp hb h hu hw a c j = if BitVec.ofBool (decide (a j = Ideal.ofBits .f32 0x00000000#32)) = 1#1 then 0#32 else rawExp hb h hu hw (mag a c) j := rfl
  rw [e, bits_zero]
  simp only [cmp_one]
  split
  · rename_i h0
    refine (rawExp_out hb h hu hw _ j fun hr => ?_).symm
    have hm : mag a c j = 0 := by
      have e2 : mag a c j = max (a j * Ideal.ofBits .f32 c) (-(a j * Ideal.ofBits .f32 c)) := rfl
      rw [e2, h0, zero_mul]; simp
    have := ((inRange_iff _ j).mp hr).1
    rw [hm] at this
    have hp : (0 : EReal) < pow2 (-126) := by
      unfold pow2; exact_mod_cast (zpow_pos (by norm_num : (0 : ℝ) < 2) (-126))
    exact absurd this (not_le.mpr hp)
  · rfl

/-- The reference's minimum, in the normal range. -/
theorem rMin (P : FVec Ideal T252 .f32) (hP : ∀ k : Fin 252, P (ix1 k) = pow2 ((k.val : ℤ) - 125)) (v : FVec Ideal T0 .f32) (j : T0.Idx)
    (i : Fin 252) (h1 : pow2 ((i.val : ℤ) - 126) ≤ v j) (h2 : v j < pow2 ((i.val : ℤ) - 125)) :
    Host.reduce FloatOps.minimumf (select (cmpf .olt (broadcastInDim T252 ![] hb v) P) P (constant T252 .f32 0x7F800000#32))
      (constant T0 .f32 0x7F800000#32) h hu j = pow2 ((i.val : ℤ) - 125) := by
  have hx : ∀ k : Fin 252, (select (cmpf .olt (broadcastInDim T252 ![] hb v) P) P (constant (F := Ideal) T252 .f32 0x7F800000#32) (ix1 k) : EReal)
      = if i.val ≤ k.val then pow2 ((k.val : ℤ) - 125) else ⊤ := by
    intro k
    have e : (select (cmpf .olt (broadcastInDim T252 ![] hb v) P) P (constant (F := Ideal) T252 .f32 0x7F800000#32) (ix1 k) : EReal)
        = if BitVec.ofBool (decide (v j < P (ix1 k))) = 1#1 then P (ix1 k) else Ideal.ofBits .f32 0x7F800000#32 :=
      congrArg (fun q => if BitVec.ofBool (decide (v q < P (ix1 k))) = 1#1 then P (ix1 k) else Ideal.ofBits .f32 0x7F800000#32) (funext fun a => a.elim0)
    rw [e, hP, bits_top]
    simp only [cmp_one]
    have : v j < pow2 ((k.val : ℤ) - 125) ↔ i.val ≤ k.val := by
      constructor
      · intro hk; have := pow2_lt.mp (lt_of_le_of_lt h1 hk); omega
      · intro hk; exact lt_of_lt_of_le h2 (pow2_le.mpr (by omega))
    simp only [this]
  have e : Host.reduce FloatOps.minimumf (select (cmpf .olt (broadcastInDim T252 ![] hb v) P) P (constant T252 .f32 0x7F800000#32))
      (constant T0 .f32 0x7F800000#32) h hu j
      = (Finset.univ : Finset (Fin 252)).fold (min : EReal → EReal → EReal) (Ideal.ofBits .f32 0x7F800000#32)
        (fun k => (select (cmpf .olt (broadcastInDim T252 ![] hb v) P) P (constant (F := Ideal) T252 .f32 0x7F800000#32) (ix1 k) : EReal)) :=
    (Host.reduce_eq_fold (min : EReal → EReal → EReal) _ _ h hu j).trans (fold_ix1 _ _ _ h j)
  rw [e, bits_top]
  simp only [hx]
  apply le_antisymm
  · exact Finset.fold_min_le _ |>.mpr (.inr ⟨i, Finset.mem_univ _, by simp⟩)
  · refine Finset.le_fold_min _ |>.mpr ⟨le_top, fun k _ => ?_⟩
    split
    · exact pow2_le.mpr (by omega)
    · exact le_top

/-- The scale, on either side: a power of two whose inverse the kernel has too. -/
theorem scale_eq (P : FVec Ideal T252 .f32) (hP : ∀ k : Fin 252, P (ix1 k) = pow2 ((k.val : ℤ) - 125)) (a : FVec Ideal T0 .f32) (c : BitVec 32) (j : T0.Idx) :
    kScale (kExp hb h hu hw a c) j = rScale hb h hu P a c j
    ∧ kInv (kExp hb h hu hw a c) j = Ideal.div (Ideal.ofBits .f32 0x3F800000#32) (rScale hb h hu P a c j) := by
  have ek : kScale (kExp hb h hu hw a c) j = Ideal.ofBits .f32 (IntOp.shli .host (kExp hb h hu hw a c j + 127#32) 23#32) := rfl
  have ei : kInv (kExp hb h hu hw a c) j = Ideal.ofBits .f32 (IntOp.shli .host (-(kExp hb h hu hw a c j) + 127#32) 23#32) := rfl
  rw [ek, ei, kExp_eq, bits_one, pow2_zero]
  by_cases hr : inRange (mag a c) j = 1#1
  · obtain ⟨i, h1, h2⟩ := bracket _ ((inRange_iff _ j).mp hr).1 ((inRange_iff _ j).mp hr).2
    have er : rScale hb h hu P a c j = pow2 ((i.val : ℤ) - 125) := (if_pos hr).trans (rMin hb h hu P hP _ j i h1 h2)
    rw [rawExp_in hb h hu hw _ j i h1 h2 hr, words_scale, words_inv, er, div_pow2, ofBits_pow2 _ (by omega) (by omega), ofBits_pow2 _ (by omega) (by omega)]
    constructor
    · congr 1; push_cast; ring
    · congr 1; have := i.isLt; push_cast [Nat.cast_sub (show i.val ≤ 252 by omega)]; ring
  · have er : rScale hb h hu P a c j = pow2 0 := (if_neg hr).trans bits_one
    rw [rawExp_out hb h hu hw _ j hr, er, div_pow2]
    exact ⟨bits_one, bits_one⟩

end Chains

end Cert.Scale

end
-- ==== Proof.HostReads.lean ====
/-
  What the host operations around the three kernels leave in the buffers that the kernels and the results read.
-/
module

public import proofs.«01_k».proof.Defs
public import proofs.«01_k».proof.Proof.Gen.KernelIdeal.Frame
public import proofs.«01_k».proof.Proof.Scale
public import Idealize.ShloMosaic.Lib.StableHlo.RunRead

@[expose] public section

set_option maxRecDepth 16384

noncomputable section

namespace Cert.KernelIdeal.HostReads

open Idealize.ShloMosaic Idealize.ShloMosaic.TcCoe Idealize.ShloMosaic.StableHlo
open Cert.KernelIdeal Cert.KernelIdeal.Gen Cert.Scale

/-- The maximum of each row of the history. -/
def rowMax (x : FVec Ideal S3x16 .f32) : FVec Ideal S3 .f32 :=
  Host.reduce FloatOps.maximumf x (constant S_ .f32 0xFF800000#32) reducesTo_S3x16_S3_d1 h_S_
/-- The three rows' maxima, each a number of its own. -/
def row0 (r : FVec Ideal S3 .f32) : FVec Ideal S_ .f32 := shapeCast S_ (extractStridedSlice S1 ![0] r slices_S3_S1_0) shapeCasts_S1_S_
def row1 (r : FVec Ideal S3 .f32) : FVec Ideal S_ .f32 := shapeCast S_ (extractStridedSlice S1 ![1] r slices_S3_S1_1) shapeCasts_S1_S_
def row2 (r : FVec Ideal S3 .f32) : FVec Ideal S_ .f32 := shapeCast S_ (extractStridedSlice S1 ![2] r slices_S3_S1_2) shapeCasts_S1_S_

/-- The exponent the kernel reads off a row's maximum, before and after the test for zero. -/
def raw (a : FVec Ideal S_ .f32) (k : BitVec 32) : IVec S_ 32 := rawExp bcast_S_S252 reducesTo_S252_S_d0 h_S_ natLt_1_32 (mag a k)
def expo (a : FVec Ideal S_ .f32) (k : BitVec 32) : IVec S_ 32 := kExp bcast_S_S252 reducesTo_S252_S_d0 h_S_ natLt_1_32 a k
def isZero (a : FVec Ideal S_ .f32) : IVec S_ 1 := cmpf .oeq a (constant S_ .f32 0x00000000#32)

theorem expo_eq (a : FVec Ideal S_ .f32) (k : BitVec 32) : select (isZero a) (constantI S_ 32 0#32) (raw a k) = expo a k := rfl

variable (V : Valuation τ sig (Elt Ideal))

theorem s0_v0 : after hostOps0 V (Proc.devRef .tc main_v0) = rowMax (V (Proc.devRef .tc main_arg3)) := by
  unfold rowMax; after_reads_simp
  all_goals rfl

theorem s0_raw : after hostOps0 V (Proc.devRef .tc main_v19) = raw (row0 (rowMax (V (Proc.devRef .tc main_arg3)))) 0x3B124925#32 := by
  unfold raw rawExp inRange thresholds mag row0 rowMax; after_reads_simp
  all_goals rfl

theorem s0_zero : after hostOps0 V (Proc.devRef .tc main_v20) = isZero (row0 (rowMax (V (Proc.devRef .tc main_arg3)))) := by
  unfold isZero row0 rowMax; after_reads_simp
  all_goals rfl

theorem s0_c : after hostOps0 V (Proc.devRef .tc main_c_8) = constantI S_ 32 0#32 := by
  after_reads_simp
  all_goals rfl

theorem s1_exp : after hostOps0_1 V (Proc.devRef .tc main_v21) = select (V (Proc.devRef .tc main_v20)) (V (Proc.devRef .tc main_c_8)) (V (Proc.devRef .tc main_v19)) := by
  after_reads_simp
  all_goals rfl

theorem s2_scale : after hostOps0_2 V (Proc.devRef .tc main_v24) = kScale (V (Proc.devRef .tc main_v21)) := by
  unfold kScale; after_reads_simp
  all_goals rfl

theorem s2_inv : after hostOps0_2 V (Proc.devRef .tc main_v28) = kInv (V (Proc.devRef .tc main_v21)) := by
  unfold kInv; after_reads_simp
  all_goals rfl

theorem s2_raw : after hostOps0_2 V (Proc.devRef .tc main_v47) = raw (row1 (V (Proc.devRef .tc main_v0))) 0x3B124925#32 := by
  unfold raw rawExp inRange thresholds mag row1; after_reads_simp
  all_goals rfl

theorem s2_zero : after hostOps0_2 V (Proc.devRef .tc main_v48) = isZero (row1 (V (Proc.devRef .tc main_v0))) := by
  unfold isZero row1; after_reads_simp
  all_goals rfl

theorem s2_c : after hostOps0_2 V (Proc.devRef .tc main_c_22) = constantI S_ 32 0#32 := by
  after_reads_simp
  all_goals rfl

theorem s3_exp : after hostOps0_3 V (Proc.devRef .tc main_v49) = select (V (Proc.devRef .tc main_v48)) (V (Proc.devRef .tc main_c_22)) (V (Proc.devRef .tc main_v47)) := by
  after_reads_simp
  all_goals rfl

theorem s4_scale : after hostOps0_4 V (Proc.devRef .tc main_v52) = kScale (V (Proc.devRef .tc main_v49)) := by
  unfold kScale; after_reads_simp
  all_goals rfl

theorem s4_inv : after hostOps0_4 V (Proc.devRef .tc main_v56) = kInv (V (Proc.devRef .tc main_v49)) := by
  unfold kInv; after_reads_simp
  all_goals rfl

theorem s4_raw : after hostOps0_4 V (Proc.devRef .tc main_v75) = raw (row2 (V (Proc.devRef .tc main_v0))) 0x37924925#32 := by
  unfold raw rawExp inRange thresholds mag row2; after_reads_simp
  all_goals rfl

theorem s4_zero : after hostOps0_4 V (Proc.devRef .tc main_v76) = isZero (row2 (V (Proc.devRef .tc main_v0))) := by
  unfold isZero row2; after_reads_simp
  all_goals rfl

theorem s4_c : after hostOps0_4 V (Proc.devRef .tc main_c_36) = constantI S_ 32 0#32 := by
  after_reads_simp
  all_goals rfl

theorem s5_exp : after hostOps0_5 V (Proc.devRef .tc main_v77) = select (V (Proc.devRef .tc main_v76)) (V (Proc.devRef .tc main_c_36)) (V (Proc.devRef .tc main_v75)) := by
  after_reads_simp
  all_goals rfl

theorem s6_scale : after hostOps0_6 V (Proc.devRef .tc main_v80) = kScale (V (Proc.devRef .tc main_v77)) := by
  unfold kScale; after_reads_simp
  all_goals rfl

theorem s6_inv : after hostOps0_6 V (Proc.devRef .tc main_v84) = kInv (V (Proc.devRef .tc main_v77)) := by
  unfold kInv; after_reads_simp
  all_goals rfl

theorem s6_winv : after hostOps0_6 V (Proc.devRef .tc main_v85) = broadcastInDim S1 ![] bcast_S_S1 (V (Proc.devRef .tc main_v56)) := by
  after_reads_simp
  all_goals rfl

theorem s7_x : after hostOps1 V (Proc.devRef .tc main_v87) = shapeCast S24576x3200 (V (Proc.devRef .tc main_arg0)) shapeCasts_S4x6144x3200_S24576x3200 := by
  after_reads_simp
  all_goals rfl

theorem s7_dy : after hostOps1 V (Proc.devRef .tc main_v88) = shapeCast S24576x2560 (V (Proc.devRef .tc main_arg2)) shapeCasts_S4x6144x2560_S24576x2560 := by
  after_reads_simp
  all_goals rfl

/-- The four scalars the main region reads, in one vector. -/
def four (a b c d : FVec Ideal S_ .f32) : FVec Ideal S4 .f32 :=
  concatenate S4 0 [⟨S1, broadcastInDim S1 ![] bcast_S_S1 a⟩, ⟨S1, broadcastInDim S1 ![] bcast_S_S1 b⟩, ⟨S1, broadcastInDim S1 ![] bcast_S_S1 c⟩,
    ⟨S1, broadcastInDim S1 ![] bcast_S_S1 d⟩] concatenates_S1_S1_S1_S1_S4_d0

theorem s7_s : after hostOps1 V (Proc.devRef .tc main_v95) = four (V (Proc.devRef .tc main_v28)) (V (Proc.devRef .tc main_v84)) (mulf (F := Ideal) (V (Proc.devRef .tc main_v24)) (V (Proc.devRef .tc main_v52))) (mulf (F := Ideal) (V (Proc.devRef .tc main_v80)) (V (Proc.devRef .tc main_v52))) := by
  unfold four; after_reads_simp
  all_goals rfl

theorem s8_s : after hostOps2 V (Proc.devRef .tc main_v98) = broadcastInDim S1 ![] bcast_S_S1 (mulf (F := Ideal) (φ := .f32) (s := S_) (V (Proc.devRef .tc main_v80)) (V (Proc.devRef .tc main_v24))) := by
  after_reads_simp
  all_goals rfl

/-- The new history: the three maxima in front, the oldest column dropped. -/
def newHist (a b c : FVec Ideal S1x1 .f32) (x : FVec Ideal S3x16 .f32) : FVec Ideal S3x16 .f32 :=
  concatenate S3x16 1 [⟨S3x1, concatenate S3x1 0 [⟨S1x1, a⟩, ⟨S1x1, b⟩, ⟨S1x1, c⟩] concatenates_S1x1_S1x1_S1x1_S3x1_d0⟩,
    ⟨S3x15, extractStridedSlice S3x15 ![0, 0] x slices_S3x16_S3x15_0_0⟩] concatenates_S3x1_S3x15_S3x16_d1

theorem s9_hist : after hostOps3 V (Proc.devRef .tc main_v102) = newHist (V (Proc.devRef .tc main_v96_4)) (V (Proc.devRef .tc main_v86_1)) (V (Proc.devRef .tc main_v96_5)) (V (Proc.devRef .tc main_arg3)) := by
  unfold newHist; after_reads_simp
  all_goals rfl

theorem s9_y : after hostOps3 V (Proc.devRef .tc main_v103) = shapeCast S4x6144x2560 (V (Proc.devRef .tc main_v96_2)) shapeCasts_S24576x2560_S4x6144x2560 := by
  after_reads_simp
  all_goals rfl

theorem s9_dx : after hostOps3 V (Proc.devRef .tc main_v104) = shapeCast S4x6144x3200 (V (Proc.devRef .tc main_v96_3)) shapeCasts_S24576x3200_S4x6144x3200 := by
  after_reads_simp
  all_goals rfl

theorem s9_xc : after hostOps3 V (Proc.devRef .tc main_v105) = shapeCast S4x6144x3200 (V (Proc.devRef .tc main_v96_0)) shapeCasts_S24576x3200_S4x6144x3200 := by
  after_reads_simp
  all_goals rfl

theorem s9_dyc : after hostOps3 V (Proc.devRef .tc main_v106) = shapeCast S4x6144x2560 (V (Proc.devRef .tc main_v96_1)) shapeCasts_S24576x2560_S4x6144x2560 := by
  after_reads_simp
  all_goals rfl

end Cert.KernelIdeal.HostReads

end
-- ==== Proof.Spec.lean ====
/-
  What the kernel and the reference both compute, at one entry, and how a maximum is compared with a bound.
-/
module

public import Idealize.ShloMosaic.PureOps.Reduce
public import Idealize.ShloMosaic.PureOps.Ideal.Laws
public import Idealize.ShloMosaic.Lib.ValueIdx
public import Idealize.ShloMosaic.Lib.Pipeline.Value
public import Idealize.ShloMosaic.Lib.Pipeline.ValueKit

@[expose] public section

noncomputable section

namespace Cert.Spec

open Idealize.ShloMosaic

/-- The code of `x` under the inverse scale `s`: the product clamped to `[lo, hi]`. -/
def code (lo hi : BitVec 32) (x s : EReal) : EReal :=
  min (Ideal.ofBits .f32 hi) (max (Ideal.ofBits .f32 lo) (x * s))

/-- The absolute value, as both programs take it. -/
def mag (x : EReal) : EReal := max x (-x)

theorem mag_nonneg (x : EReal) : 0 ≤ mag x := by
  unfold mag
  rcases le_total 0 x with h | h
  · exact le_max_of_le_left h
  · exact le_max_of_le_right (EReal.neg_nonneg.mpr h)

/-- A maximum reduction from minus infinity is at most `z` exactly when every entry it covers is. -/
theorem multiReduction_max_le {s t : Shape} {axes : List (Fin s.rank)} (src : FVec Ideal s .f32) (h : s.Reduces axes t)
    (hφ : FKind.Formats .f32) (hacc : 0xFF800000#32 = FKind.maximumf.neutral .f32 hφ) (j : t.Idx) (z : EReal) :
    (multiReduction .maximumf axes t src 0xFF800000#32 h hφ hacc j : EReal) ≤ z ↔ ∀ i, h.drop i = j → (src i : EReal) ≤ z := by
  rw [multiReduction_maximumf_eq_fold]
  show (Finset.fold max (Ideal.ofBits .f32 0xFF800000#32) src _ : EReal) ≤ z ↔ _
  rw [Finset.fold_max_le]
  have hb : Ideal.ofBits .f32 0xFF800000#32 = ⊥ := by simp [Ideal.ofBits, Ideal.ieee]
  rw [hb]
  simp

/-- Two nested maximum reductions down to one number: at most `z` exactly when every entry is. -/
theorem max2_le {s a b o p : Shape} {ax : List (Fin s.rank)} {ax' : List (Fin b.rank)} (src : FVec Ideal s .f32) (h : s.Reduces ax a)
    (hc : a.ShapeCasts b) (h' : b.Reduces ax' o) (hc' : o.ShapeCasts p) [Subsingleton o.Idx]
    (hφ hφ' : FKind.Formats .f32) (hacc : 0xFF800000#32 = FKind.maximumf.neutral .f32 hφ)
    (hacc' : 0xFF800000#32 = FKind.maximumf.neutral .f32 hφ') (j : p.Idx) (z : EReal) :
    (shapeCast p (multiReduction .maximumf ax' o (shapeCast b (multiReduction .maximumf ax a src 0xFF800000#32 h hφ hacc) hc)
        0xFF800000#32 h' hφ' hacc') hc' j : EReal) ≤ z ↔ ∀ i, (src i : EReal) ≤ z := by
  unfold shapeCast
  rw [multiReduction_max_le]
  constructor
  · intro H i
    have := H ((Shape.reshapeEquiv hc).symm (h.drop i)) (Subsingleton.elim _ _)
    rw [Equiv.apply_symm_apply, multiReduction_max_le] at this
    exact this i rfl
  · intro H k _
    rw [multiReduction_max_le]
    exact fun i _ => H i

/-- A running maximum that starts at zero: at most `z` after point `t` exactly when zero and every part so far is. -/
theorem run_max_le {N : Nat} (J : Nat) (hN : N ≤ J) (f : (n : Nat) → n < N → EReal) (P : Fin N → EReal → Prop)
    (h0 : ∀ t : Fin N, t.val % J = 0 → ∀ z, f t.val t.isLt ≤ z ↔ 0 ≤ z ∧ P t z)
    (hs : ∀ t : Fin N, ¬t.val % J = 0 → ∀ z,
      f t.val t.isLt ≤ z ↔ f (t.val - 1) (Nat.lt_of_le_of_lt (Nat.sub_le _ _) t.isLt) ≤ z ∧ P t z) :
    ∀ (n : Nat) (hn : n < N) (z : EReal), f n hn ≤ z ↔ 0 ≤ z ∧ ∀ t : Fin N, t.val ≤ n → P t z := by
  intro n
  induction n with
  | zero =>
    intro hn z
    rw [h0 ⟨0, hn⟩ (Nat.zero_mod _) z]
    refine and_congr Iff.rfl ⟨fun H t ht => ?_, fun H => H ⟨0, hn⟩ (le_refl _)⟩
    obtain rfl : t = ⟨0, hn⟩ := Fin.ext (Nat.le_zero.mp ht)
    exact H
  | succ n ih =>
    intro hn z
    rw [hs ⟨n + 1, hn⟩ (by show ¬(n + 1) % J = 0; rw [Nat.mod_eq_of_lt (by omega)]; omega) z]
    show f n _ ≤ z ∧ _ ↔ _
    rw [ih, and_assoc]
    refine and_congr Iff.rfl ⟨fun H t ht => ?_, fun H => ⟨fun t ht => H t (Nat.le_succ_of_le ht), H ⟨n + 1, hn⟩ (le_refl _)⟩⟩
    rcases Nat.lt_or_ge t.val (n + 1) with h | h
    · exact H.1 t (Nat.lt_succ_iff.mp h)
    · obtain rfl : t = ⟨n + 1, hn⟩ := Fin.ext (Nat.le_antisymm ht h)
      exact H.2

end Cert.Spec

end
-- ==== Proof.Region0.lean ====
/-
  The weight quantiser's region: its codes array and its running maximum, as functions of the contents it finds.
-/
module

public import proofs.«01_k».proof.Defs
public import proofs.«01_k».proof.Proof.Gen.KernelIdeal.Frame
public import proofs.«01_k».proof.Proof.Gen.KernelIdeal.Points
public import proofs.«01_k».proof.Proof.Spec
public import Idealize.ShloMosaic.Lib.ValueIdx
public import Idealize.ShloMosaic.Lib.Pipeline.Value
public import Idealize.ShloMosaic.Lib.Pipeline.ValueKit

@[expose] public section

set_option maxRecDepth 16384

noncomputable section

namespace Cert.KernelIdeal.Region0

open Idealize.ShloMosaic Idealize.ShloMosaic.TcCoe Idealize.ShloMosaic.Tactic
open Idealize.ShloMosaic.Pipeline (Dat Cfg Window)
open Cert.KernelIdeal Cert.KernelIdeal.Gen Cert.Spec

variable (V : (c : Dev nD) → (b : Ref sig .tc) → Buf (Elt Ideal) ((c : Thread nD τ).loc b)) (c : Dev nD)

/-- Where each window's block sits at point `t`. -/
theorem idx : ∀ t : Fin cfg0.N, win0_0.index t = ![0] ∧ win0_1.index t = ![t.val, 0] ∧ win0_2.index t = ![t.val, 0]
    ∧ win0_3.index t = ![0, 0] :=
  (by decide +kernel : ∀ t : Fin grid0.N, _)

theorem codes : (dat0 V c).arrAt 2 cfg0.N
    = fun i : S2560x3200.Idx => code 0xC3E00000#32 0x43E00000#32 (V c main_arg1 i) (V c main_v85 (ix1 0)) := by
  refine (dat0 V c).arrAt_eq_of_covers 2 _ (by decide +kernel) fun t _ y => ?_
  blk_simp
  rw [after0_2]
  by_cases h : t.val % 10 = 0
  · rw [outsAt0_A V c t h]; frame_out
    pointwise [k0_pay2, code]
    blk_point [iblk0, idx t]
  · rw [outsAt0_B V c t h]; frame_out
    pointwise [k0_pay2, code]
    blk_point [iblk0, idx t]

instance : Subsingleton S1.Idx := ⟨fun a b => by blk_ext⟩
instance : Subsingleton S1x1.Idx := ⟨fun a b => by blk_ext⟩

theorem acc_le (x : FVec Ideal S256x3200 .bf16) (o : FVec Ideal S1x1 .f32) (j : S1x1.Idx) (z : EReal) :
    (k0_pay3 (F := Ideal) x o j : EReal) ≤ z ↔ (o j : EReal) ≤ z ∧ ∀ i, mag (x i) ≤ z := by
  unfold k0_pay3
  show max (shapeCast S1x1 o _ j : EReal) _ ≤ z ↔ _
  rw [max_le_iff, shapeCast_self]
  refine and_congr Iff.rfl ?_
  exact max2_le (extf .f32 (absf x) bitsLt_bf16_f32) _ _ _ _ _ _ _ _ j z

theorem zero_at (j : S1x1.Idx) : (k0_pay1 (F := Ideal) j : EReal) = 0 := by pointwise [k0_pay1]

/-- The running maximum's one cell after the last point. -/
def amax : EReal := (outsAt0 V c 9 (by rw [show cfg0.N = 10 from N_0]; decide)).2 (ix2 0 0)

theorem amax_at (n : Nat) (hn : n < cfg0.N) (h : n = 9) (y : S1x1.Idx) : (outsAt0 V c n hn).2 y = amax V c := by
  subst h; unfold amax; rw [Subsingleton.elim y (ix2 0 0)]

theorem amax_eq : (dat0 V c).arrAt 3 cfg0.N = fun _ : S1x1.Idx => amax V c := by
  refine (dat0 V c).arrAt_eq_of_covers 3 _ (by decide +kernel) fun t hf y => ?_
  blk_simp
  rw [after0_3]
  have hN : cfg0.N = 10 := N_0
  have h9 : t.val = 9 := by have := (flush0_3 t).mp hf; have := t.isLt; omega
  exact amax_at V c t.val t.isLt h9 y

theorem block_at (t : Fin cfg0.N) (i : S256x3200.Idx) (k : S2560x3200.Idx) (h0 : (k 0 : ℕ) = t.val * 256 + i 0) (h1 : (k 1 : ℕ) = i 1) :
    iblk0 V c 1 t i = V c main_arg1 k := by
  blk_point [iblk0, idx t]

theorem amax_le (z : EReal) : amax V c ≤ z ↔ 0 ≤ z ∧ ∀ i : S2560x3200.Idx, mag (V c main_arg1 i) ≤ z := by
  have hN : cfg0.N = 10 := N_0
  unfold amax
  rw [run_max_le 10 (le_of_eq hN) (fun n hn => (outsAt0 V c n hn).2 (ix2 0 0)) (fun t z => ∀ i : S256x3200.Idx, mag (iblk0 V c 1 t i) ≤ z)
    (fun t h z => by rw [outsAt0_A V c t h]; frame_out; rw [acc_le, zero_at])
    (fun t h z => by rw [outsAt0_B V c t h]; frame_out; rw [acc_le]) 9 _ z]
  refine and_congr Iff.rfl ⟨fun H k => ?_, fun H t _ i => ?_⟩
  · have k0 : (k 0 : ℕ) < 2560 := (k 0).isLt
    have := H ⟨(k 0 : ℕ) / 256, by omega⟩ (by show (k 0 : ℕ) / 256 ≤ 9; omega) (ix2 ⟨(k 0 : ℕ) % 256, by omega⟩ (k 1))
    rwa [block_at V c _ _ k (by show (k 0 : ℕ) = (k 0 : ℕ) / 256 * 256 + (k 0 : ℕ) % 256; omega) rfl] at this
  · have i0 : (i 0 : ℕ) < 256 := (i 0).isLt
    have := t.isLt
    rw [block_at V c t i (ix2 ⟨t.val * 256 + (i 0 : ℕ), by omega⟩ (i 1)) rfl rfl]
    exact H _

end Cert.KernelIdeal.Region0

end
-- ==== Proof.Region1.lean ====
/-
  The main region: the codes of `x` and `dy`, the products `y` and `dx`, as functions of the contents it finds.
-/
module

public import proofs.«01_k».proof.Defs
public import proofs.«01_k».proof.Proof.Gen.KernelIdeal.Frame
public import proofs.«01_k».proof.Proof.Gen.KernelIdeal.Points
public import proofs.«01_k».proof.Proof.Spec
public import Idealize.ShloMosaic.Lib.ValueIdx
public import Idealize.ShloMosaic.Lib.Pipeline.Value
public import Idealize.ShloMosaic.Lib.Pipeline.ValueKit

@[expose] public section

set_option maxRecDepth 16384

noncomputable section

namespace Cert.KernelIdeal.Region1

open Idealize.ShloMosaic Idealize.ShloMosaic.TcCoe Idealize.ShloMosaic.Tactic
open Idealize.ShloMosaic.Pipeline (Dat Cfg Window)
open Cert.KernelIdeal Cert.KernelIdeal.Gen Cert.Spec

variable (V : (c : Dev nD) → (b : Ref sig .tc) → Buf (Elt Ideal) ((c : Thread nD τ).loc b)) (c : Dev nD)

/-- Where each window's block sits at point `t`. -/
theorem idx : ∀ t : Fin cfg1.N, win1_0.index t = ![0] ∧ win1_1.index t = ![t.val, 0] ∧ win1_2.index t = ![t.val, 0]
    ∧ win1_3.index t = ![0, 0] ∧ win1_4.index t = ![t.val, 0] ∧ win1_5.index t = ![t.val, 0] ∧ win1_6.index t = ![t.val, 0]
    ∧ win1_7.index t = ![t.val, 0] ∧ win1_8.index t = ![0, 0] ∧ win1_9.index t = ![0, 0] :=
  (by decide +kernel : ∀ t : Fin grid1.N, _)

theorem xcodes : (dat1 V c).arrAt 4 cfg1.N
    = fun i : S24576x3200.Idx => code 0xC3E00000#32 0x43E00000#32 (V c main_v87 i) (V c main_v95 (ix1 0)) := by
  refine (dat1 V c).arrAt_eq_of_covers 4 _ (by decide +kernel) fun t _ y => ?_
  blk_simp
  rw [after1_4]
  by_cases h : t.val % 96 = 0
  · rw [outsAt1_A V c t h]; frame_out
    pointwise [k1_pay8, k1_pay7, code]
    blk_point [iblk1, idx t]
  · rw [outsAt1_B V c t h]; frame_out
    pointwise [k1_pay8, k1_pay7, code]
    blk_point [iblk1, idx t]

theorem dycodes : (dat1 V c).arrAt 5 cfg1.N
    = fun i : S24576x2560.Idx => code 0xC7600000#32 0x47600000#32 (V c main_v88 i) (V c main_v95 (ix1 1)) := by
  refine (dat1 V c).arrAt_eq_of_covers 5 _ (by decide +kernel) fun t _ y => ?_
  blk_simp
  rw [after1_5]
  by_cases h : t.val % 96 = 0
  · rw [outsAt1_A V c t h]; frame_out
    pointwise [k1_pay1, k1_pay10, k1_pay11, code]
    blk_point [iblk1, idx t]
  · rw [outsAt1_B V c t h]; frame_out
    pointwise [k1_pay1, k1_pay10, k1_pay11, code]
    blk_point [iblk1, idx t]

theorem y_eq : (dat1 V c).arrAt 6 cfg1.N
    = fun i : S24576x2560.Idx => (∑ k : Fin 3200, code 0xC3E00000#32 0x43E00000#32 (V c main_v87 (ix2 (i 0) k)) (V c main_v95 (ix1 0))
        * V c main_v86_0 (ix2 (i 1) k) : EReal) * V c main_v95 (ix1 2) := by
  refine (dat1 V c).arrAt_eq_of_covers 6 _ (by decide +kernel) fun t _ y => ?_
  blk_simp
  rw [after1_6]
  by_cases h : t.val % 96 = 0
  · rw [outsAt1_A V c t h]; frame_out
    pointwise [k1_pay3, k1_pay8, k1_pay7, code]
    blk_point [iblk1, idx t]
  · rw [outsAt1_B V c t h]; frame_out
    pointwise [k1_pay3, k1_pay8, k1_pay7, code]
    blk_point [iblk1, idx t]

theorem dx_eq : (dat1 V c).arrAt 7 cfg1.N
    = fun i : S24576x3200.Idx => (∑ k : Fin 2560, code 0xC7600000#32 0x47600000#32 (V c main_v88 (ix2 (i 0) k)) (V c main_v95 (ix1 1))
        * V c main_v86_0 (ix2 k (i 1)) : EReal) * V c main_v95 (ix1 3) := by
  refine (dat1 V c).arrAt_eq_of_covers 7 _ (by decide +kernel) fun t _ y => ?_
  blk_simp
  rw [after1_7]
  by_cases h : t.val % 96 = 0
  · rw [outsAt1_A V c t h]; frame_out
    pointwise [k1_pay4, k1_pay1, k1_pay11, k1_pay10, code]
    blk_point [iblk1, idx t]
  · rw [outsAt1_B V c t h]; frame_out
    pointwise [k1_pay4, k1_pay1, k1_pay11, k1_pay10, code]
    blk_point [iblk1, idx t]

end Cert.KernelIdeal.Region1

end
-- ==== Proof.Region1MaxX.lean ====
/-
  The main region: the running maxima of `x` and `dy`, as functions of the contents it finds.
-/
module

public import proofs.«01_k».proof.Defs
public import proofs.«01_k».proof.Proof.Gen.KernelIdeal.Frame
public import proofs.«01_k».proof.Proof.Gen.KernelIdeal.Points
public import proofs.«01_k».proof.Proof.Spec
public import Idealize.ShloMosaic.Lib.ValueIdx
public import Idealize.ShloMosaic.Lib.Pipeline.Value
public import Idealize.ShloMosaic.Lib.Pipeline.ValueKit

@[expose] public section

set_option maxRecDepth 16384

noncomputable section

namespace Cert.KernelIdeal.Region1MaxX

open Idealize.ShloMosaic Idealize.ShloMosaic.TcCoe Idealize.ShloMosaic.Tactic
open Idealize.ShloMosaic.Pipeline (Dat Cfg Window)
open Cert.KernelIdeal Cert.KernelIdeal.Gen Cert.Spec

variable (V : (c : Dev nD) → (b : Ref sig .tc) → Buf (Elt Ideal) ((c : Thread nD τ).loc b)) (c : Dev nD)

/-- Where each window's block sits at point `t`. -/
theorem idx : ∀ t : Fin cfg1.N, win1_0.index t = ![0] ∧ win1_1.index t = ![t.val, 0] ∧ win1_2.index t = ![t.val, 0]
    ∧ win1_3.index t = ![0, 0] ∧ win1_4.index t = ![t.val, 0] ∧ win1_5.index t = ![t.val, 0] ∧ win1_6.index t = ![t.val, 0]
    ∧ win1_7.index t = ![t.val, 0] ∧ win1_8.index t = ![0, 0] ∧ win1_9.index t = ![0, 0] :=
  (by decide +kernel : ∀ t : Fin grid1.N, _)

instance : Subsingleton S1.Idx := ⟨fun a b => by blk_ext⟩
instance : Subsingleton S1x1.Idx := ⟨fun a b => by blk_ext⟩

/-- The grid's last point. -/
@[irreducible] def lastPoint : Fin cfg1.N := ⟨95, by rw [show cfg1.N = 96 from N_1]; decide⟩

theorem lastPoint_val : lastPoint.val = 95 := by unfold lastPoint; rfl

theorem acc_x (x : FVec Ideal S256x3200 .bf16) (o : FVec Ideal S1x1 .f32) (j : S1x1.Idx) (z : EReal) :
    (k1_pay9 (F := Ideal) x o j : EReal) ≤ z ↔ (o j : EReal) ≤ z ∧ ∀ i, mag (x i) ≤ z := by
  have e : k1_pay7 (F := Ideal) x = x := shapeCast_self x _
  unfold k1_pay9
  rw [e]
  show max (shapeCast S1x1 o _ j : EReal) _ ≤ z ↔ _
  rw [max_le_iff, shapeCast_self]
  refine and_congr Iff.rfl ?_
  exact max2_le (extf .f32 (absf x) bitsLt_bf16_f32) _ _ _ _ _ _ _ _ j z

theorem zero_x (j : S1x1.Idx) : (k1_pay5 (F := Ideal) j : EReal) = 0 := by pointwise [k1_pay5]

/-- The running maximum's one cell after the last point. -/
def amax_x : EReal := (outsAt1 V c lastPoint.val lastPoint.isLt).2.2.2.2.1 (ix2 0 0)

theorem amax_x_at (t : Fin cfg1.N) (h : t = lastPoint) (y : S1x1.Idx) : (outsAt1 V c t.val t.isLt).2.2.2.2.1 y = amax_x V c := by
  subst h; unfold amax_x; rw [Subsingleton.elim y (ix2 0 0)]

theorem amax_x_eq : (dat1 V c).arrAt 8 cfg1.N = fun _ : S1x1.Idx => amax_x V c := by
  refine (dat1 V c).arrAt_eq_of_covers 8 _ (by decide +kernel) fun t hf y => ?_
  blk_simp
  rw [after1_8]
  have hN : cfg1.N = 96 := N_1
  have hl : t = lastPoint := Fin.ext (by rw [lastPoint_val]; have := (flush1_8 t).mp hf; have := t.isLt; omega)
  exact amax_x_at V c t hl y

/-- The running maximum after point `n` against a bound. -/
theorem run_x_le (n : Nat) (hn : n < cfg1.N) (z : EReal) :
    (outsAt1 V c n hn).2.2.2.2.1 (ix2 0 0) ≤ z ↔ 0 ≤ z ∧ ∀ t : Fin cfg1.N, t.val ≤ n → ∀ i : S256x3200.Idx, mag (iblk1 V c 1 t i) ≤ z :=
  run_max_le 96 (le_of_eq N_1) (fun n hn => (outsAt1 V c n hn).2.2.2.2.1 (ix2 0 0)) (fun t z => ∀ i : S256x3200.Idx, mag (iblk1 V c 1 t i) ≤ z)
    (fun t h z => by rw [outsAt1_A V c t h]; frame_out; rw [acc_x, zero_x])
    (fun t h z => by rw [outsAt1_B V c t h]; frame_out; rw [acc_x]) n hn z

theorem block_at_x (t : Fin cfg1.N) (i : S256x3200.Idx) (k : S24576x3200.Idx) (h0 : (k 0 : ℕ) = t.val * 256 + i 0) (h1 : (k 1 : ℕ) = i 1) :
    iblk1 V c 1 t i = V c main_v87 k := by
  blk_point [iblk1, idx t]

theorem amax_x_le (z : EReal) : amax_x V c ≤ z ↔ 0 ≤ z ∧ ∀ i : S24576x3200.Idx, mag (V c main_v87 i) ≤ z := by
  have hN : cfg1.N = 96 := N_1
  unfold amax_x
  rw [run_x_le V c _ _ z, lastPoint_val]
  refine and_congr Iff.rfl ⟨fun H k => ?_, fun H t _ i => ?_⟩
  · have k0 : (k 0 : ℕ) < 24576 := (k 0).isLt
    have := H ⟨(k 0 : ℕ) / 256, by omega⟩ (by show (k 0 : ℕ) / 256 ≤ 95; omega) (ix2 ⟨(k 0 : ℕ) % 256, by omega⟩ (k 1))
    rwa [block_at_x V c _ _ k (by show (k 0 : ℕ) = (k 0 : ℕ) / 256 * 256 + (k 0 : ℕ) % 256; omega) rfl] at this
  · have i0 : (i 0 : ℕ) < 256 := (i 0).isLt
    have := t.isLt
    rw [block_at_x V c t i (ix2 ⟨t.val * 256 + (i 0 : ℕ), by omega⟩ (i 1)) rfl rfl]
    exact H _

end Cert.KernelIdeal.Region1MaxX

end
-- ==== Proof.Region1MaxDy.lean ====
/-
  The main region: the running maxima of `x` and `dy`, as functions of the contents it finds.
-/
module

public import proofs.«01_k».proof.Defs
public import proofs.«01_k».proof.Proof.Gen.KernelIdeal.Frame
public import proofs.«01_k».proof.Proof.Gen.KernelIdeal.Points
public import proofs.«01_k».proof.Proof.Spec
public import Idealize.ShloMosaic.Lib.ValueIdx
public import Idealize.ShloMosaic.Lib.Pipeline.Value
public import Idealize.ShloMosaic.Lib.Pipeline.ValueKit

@[expose] public section

set_option maxRecDepth 16384

noncomputable section

namespace Cert.KernelIdeal.Region1MaxDy

open Idealize.ShloMosaic Idealize.ShloMosaic.TcCoe Idealize.ShloMosaic.Tactic
open Idealize.ShloMosaic.Pipeline (Dat Cfg Window)
open Cert.KernelIdeal Cert.KernelIdeal.Gen Cert.Spec

variable (V : (c : Dev nD) → (b : Ref sig .tc) → Buf (Elt Ideal) ((c : Thread nD τ).loc b)) (c : Dev nD)

/-- Where each window's block sits at point `t`. -/
theorem idx : ∀ t : Fin cfg1.N, win1_0.index t = ![0] ∧ win1_1.index t = ![t.val, 0] ∧ win1_2.index t = ![t.val, 0]
    ∧ win1_3.index t = ![0, 0] ∧ win1_4.index t = ![t.val, 0] ∧ win1_5.index t = ![t.val, 0] ∧ win1_6.index t = ![t.val, 0]
    ∧ win1_7.index t = ![t.val, 0] ∧ win1_8.index t = ![0, 0] ∧ win1_9.index t = ![0, 0] :=
  (by decide +kernel : ∀ t : Fin grid1.N, _)

instance : Subsingleton S1.Idx := ⟨fun a b => by blk_ext⟩
instance : Subsingleton S1x1.Idx := ⟨fun a b => by blk_ext⟩

/-- The grid's last point. -/
@[irreducible] def lastPoint : Fin cfg1.N := ⟨95, by rw [show cfg1.N = 96 from N_1]; decide⟩

theorem lastPoint_val : lastPoint.val = 95 := by unfold lastPoint; rfl

theorem same_dy (x : FVec Ideal S256x2560 .bf16) : k1_pay10 (F := Ideal) x = x := shapeCast_self x _

theorem acc_dy (x : FVec Ideal S256x2560 .bf16) (o : FVec Ideal S1x1 .f32) (j : S1x1.Idx) (z : EReal) :
    (k1_pay2 (F := Ideal) x o j : EReal) ≤ z ↔ (o j : EReal) ≤ z ∧ ∀ i, mag (x i) ≤ z := by
  unfold k1_pay2
  show max (shapeCast S1x1 o _ j : EReal) _ ≤ z ↔ _
  rw [max_le_iff, shapeCast_self]
  refine and_congr Iff.rfl ?_
  exact max2_le (extf .f32 (absf x) bitsLt_bf16_f32) _ _ _ _ _ _ _ _ j z

theorem zero_dy (j : S1x1.Idx) : (k1_pay6 (F := Ideal) j : EReal) = 0 := by pointwise [k1_pay6]

/-- The running maximum's one cell after the last point. -/
def amax_dy : EReal := (outsAt1 V c lastPoint.val lastPoint.isLt).2.2.2.2.2 (ix2 0 0)

theorem amax_dy_at (t : Fin cfg1.N) (h : t = lastPoint) (y : S1x1.Idx) : (outsAt1 V c t.val t.isLt).2.2.2.2.2 y = amax_dy V c := by
  subst h; unfold amax_dy; rw [Subsingleton.elim y (ix2 0 0)]

theorem amax_dy_eq : (dat1 V c).arrAt 9 cfg1.N = fun _ : S1x1.Idx => amax_dy V c := by
  refine (dat1 V c).arrAt_eq_of_covers 9 _ (by decide +kernel) fun t hf y => ?_
  blk_simp
  rw [after1_9]
  have hN : cfg1.N = 96 := N_1
  have hl : t = lastPoint := Fin.ext (by rw [lastPoint_val]; have := (flush1_9 t).mp hf; have := t.isLt; omega)
  exact amax_dy_at V c t hl y

/-- The running maximum after point `n` against a bound. -/
theorem run_dy_le (n : Nat) (hn : n < cfg1.N) (z : EReal) :
    (outsAt1 V c n hn).2.2.2.2.2 (ix2 0 0) ≤ z ↔ 0 ≤ z ∧ ∀ t : Fin cfg1.N, t.val ≤ n → ∀ i : S256x2560.Idx, mag (iblk1 V c 2 t i) ≤ z :=
  run_max_le 96 (le_of_eq N_1) (fun n hn => (outsAt1 V c n hn).2.2.2.2.2 (ix2 0 0)) (fun t z => ∀ i : S256x2560.Idx, mag (iblk1 V c 2 t i) ≤ z)
    (fun t h z => by rw [outsAt1_A V c t h]; frame_out; rw [same_dy, acc_dy, zero_dy])
    (fun t h z => by rw [outsAt1_B V c t h]; frame_out; rw [same_dy, acc_dy]) n hn z

theorem block_at_dy (t : Fin cfg1.N) (i : S256x2560.Idx) (k : S24576x2560.Idx) (h0 : (k 0 : ℕ) = t.val * 256 + i 0) (h1 : (k 1 : ℕ) = i 1) :
    iblk1 V c 2 t i = V c main_v88 k := by
  blk_point [iblk1, idx t]

theorem amax_dy_le (z : EReal) : amax_dy V c ≤ z ↔ 0 ≤ z ∧ ∀ i : S24576x2560.Idx, mag (V c main_v88 i) ≤ z := by
  have hN : cfg1.N = 96 := N_1
  unfold amax_dy
  rw [run_dy_le V c _ _ z, lastPoint_val]
  refine and_congr Iff.rfl ⟨fun H k => ?_, fun H t _ i => ?_⟩
  · have k0 : (k 0 : ℕ) < 24576 := (k 0).isLt
    have := H ⟨(k 0 : ℕ) / 256, by omega⟩ (by show (k 0 : ℕ) / 256 ≤ 95; omega) (ix2 ⟨(k 0 : ℕ) % 256, by omega⟩ (k 1))
    rwa [block_at_dy V c _ _ k (by show (k 0 : ℕ) = (k 0 : ℕ) / 256 * 256 + (k 0 : ℕ) % 256; omega) rfl] at this
  · have i0 : (i 0 : ℕ) < 256 := (i 0).isLt
    have := t.isLt
    rw [block_at_dy V c t i (ix2 ⟨t.val * 256 + (i 0 : ℕ), by omega⟩ (i 1)) rfl rfl]
    exact H _

end Cert.KernelIdeal.Region1MaxDy

end
-- ==== Proof.Region2.lean ====
/-
  The weight gradient's region: `dw` as a function of the contents it finds.
-/
module

public import proofs.«01_k».proof.Defs
public import proofs.«01_k».proof.Proof.Gen.KernelIdeal.Frame
public import proofs.«01_k».proof.Proof.Gen.KernelIdeal.Points
public import proofs.«01_k».proof.Proof.Spec
public import Idealize.ShloMosaic.Lib.ValueIdx
public import Idealize.ShloMosaic.Lib.Pipeline.Value
public import Idealize.ShloMosaic.Lib.Pipeline.ValueKit

@[expose] public section

set_option maxRecDepth 16384

noncomputable section

namespace Cert.KernelIdeal.Region2

open Idealize.ShloMosaic Idealize.ShloMosaic.TcCoe Idealize.ShloMosaic.Tactic
open Idealize.ShloMosaic.Pipeline (Dat Cfg Window)
open Cert.KernelIdeal Cert.KernelIdeal.Gen Cert.Spec

variable (V : (c : Dev nD) → (b : Ref sig .tc) → Buf (Elt Ideal) ((c : Thread nD τ).loc b)) (c : Dev nD)

/-- Where each window's block sits at point `t`. -/
theorem idx : ∀ t : Fin cfg2.N, win2_0.index t = ![0] ∧ win2_1.index t = ![t.val % 24, t.val / 24] ∧ win2_2.index t = ![t.val % 24, 0]
    ∧ win2_3.index t = ![t.val / 24, 0] :=
  (by decide +kernel : ∀ t : Fin grid2.N, _)

theorem zero_at (j) : k2_pay1 (F := Ideal) j = (0 : EReal) := by pointwise [k2_pay1]

theorem step_at (acc : FVec Ideal S1280x3200 .f32) (a : FVec Ideal S1024x1280 .fp8e5m2) (b : FVec Ideal S1024x3200 .fp8e4m3) (j : S1280x3200.Idx) :
    (k2_pay2 (F := Ideal) acc a b j : EReal) = acc j + ∑ l : Fin 1024, a (ix2 l (j 0)) * b (ix2 l (j 1)) := by
  pointwise [k2_pay2]

theorem scaled_at (acc : FVec Ideal S1280x3200 .f32) (s : Elt Ideal .f32) (j : S1280x3200.Idx) :
    (k2_pay3 (F := Ideal) acc s j : EReal) = acc j * s := by
  pointwise [k2_pay3]

/-- What point `t` adds to the block's entry `j`. -/
def part (t : Fin cfg2.N) (j : S1280x3200.Idx) : EReal :=
  ∑ l : Fin 1024, (show FVec Ideal S1024x1280 .fp8e5m2 from iblk2 V c 1 t) (ix2 l (j 0)) * (show FVec Ideal S1024x3200 .fp8e4m3 from iblk2 V c 2 t) (ix2 l (j 1))

/-- The block's running sum after point `n`, before the scaling that its last point applies. -/
def sums (n : Nat) (hn : n < cfg2.N) (j : S1280x3200.Idx) : EReal :=
  if n % 24 = 23 then outsAt2 V c (n - 1) (Nat.lt_of_le_of_lt (Nat.sub_le _ _) hn) j + part V c ⟨n, hn⟩ j else outsAt2 V c n hn j

theorem sums_reset (t : Fin cfg2.N) (h : t.val % 24 = 0) (j : S1280x3200.Idx) : sums V c t.val t.isLt j = 0 + part V c t j := by
  have h1 : ¬t.val % 24 = 23 := by omega
  unfold sums
  rw [if_neg h1, outsAt2_A V c t h h1]
  frame_out
  rw [step_at, zero_at]
  rfl

theorem sums_step (t : Fin cfg2.N) (h : ¬t.val % 24 = 0) (j : S1280x3200.Idx) :
    sums V c t.val t.isLt j = sums V c (t.val - 1) (Nat.lt_of_le_of_lt (Nat.sub_le _ _) t.isLt) j + part V c t j := by
  have h2 : ¬(t.val - 1) % 24 = 23 := by omega
  unfold sums
  rw [if_neg h2]
  by_cases h1 : t.val % 24 = 23
  · rw [if_pos h1]
  · rw [if_neg h1, outsAt2_B V c t h h1]
    frame_out
    rw [step_at]
    rfl

theorem last_at (t : Fin cfg2.N) (h : t.val % 24 = 23) (j : S1280x3200.Idx) :
    outsAt2 V c t.val t.isLt j = (sums V c t.val t.isLt j * (V c main_v98 (ix1 0) : EReal) : EReal) := by
  have h0 : ¬t.val % 24 = 0 := by omega
  unfold sums
  rw [if_pos h, outsAt2_C V c t h0 h]
  frame_out
  rw [scaled_at, step_at]
  refine congrArg₂ (fun a b : EReal => a * b) rfl ?_
  pointwise
  blk_point [iblk2, idx t]

/-- The product of the two arrays of codes over the rows, scaled. -/
def dwOf (A : FVec Ideal S24576x2560 .fp8e5m2) (B : FVec Ideal S24576x3200 .fp8e4m3) (s : FVec Ideal S1 .f32) : FVec Ideal S2560x3200 .f32 := fun i =>
  ((∑ k : Fin 24576, A (ix2 k (i 0)) * B (ix2 k (i 1)) : EReal) * s (ix1 0) : EReal)

theorem dw_eq : (dat2 V c).arrAt 3 cfg2.N
    = dwOf (V c main_v96_1) (V c main_v96_0) (V c main_v98) := by
  refine (dat2 V c).arrAt_eq_of_covers 3 _ (by decide +kernel) fun t hf y => ?_
  blk_simp
  have hl := (flush2_3 t).mp hf
  rw [after2_3, last_at V c t hl, Pipeline.eq_sum_fin_of_reset_step_apply_of_flush (fun n h => sums V c n h) 24 (fun _ => 0) (part V c)
    (sums_reset V c) (sums_step V c) t hl, zero_add]
  unfold dwOf
  refine congrArg₂ (fun a b : EReal => a * b) ?_ rfl
  unfold part
  refine Fin.sum_mul_add_congr fun s k hk => ?_
  blk_point [iblk2, idx t, idx ⟨_, Pipeline.run_point_lt_of_flush t hl s⟩]

end Cert.KernelIdeal.Region2

end
-- ==== Proof.Common.lean ====
/-
  The products both programs compute, over the flattened arrays of codes, and the shape of the new history.
-/
module

public import proofs.«01_k».proof.Proof.Spec
public import Idealize.ShloMosaic.Lib.ValueIdx
public import Idealize.ShloMosaic.Lib.Pipeline.Value
public import Idealize.ShloMosaic.Lib.Pipeline.ValueKit

@[expose] public section

noncomputable section

namespace Cert.Common

open Idealize.ShloMosaic Idealize.ShloMosaic.Tactic Cert.Spec

/-- The flattened shapes. -/
abbrev TX : Shape := ⟨2, ![24576, 3200]⟩
abbrev TY : Shape := ⟨2, ![24576, 2560]⟩
abbrev TW : Shape := ⟨2, ![2560, 3200]⟩
abbrev TH : Shape := ⟨2, ![3, 16]⟩

/-- Every entry's code in the format with four exponent bits, and in the one with five. -/
def codes4 {s : Shape} (x : FVec Ideal s .bf16) (inv : EReal) : FVec Ideal s .fp8e4m3 := fun i => code 0xC3E00000#32 0x43E00000#32 (x i) inv
def codes5 {s : Shape} (x : FVec Ideal s .bf16) (inv : EReal) : FVec Ideal s .fp8e5m2 := fun i => code 0xC7600000#32 0x47600000#32 (x i) inv

/-- The product of the activations' codes with the transposed weight's, scaled. -/
def yF (A : FVec Ideal TX .fp8e4m3) (B : FVec Ideal TW .fp8e4m3) (s : EReal) : FVec Ideal TY .bf16 :=
  fun i => ((∑ k : Fin 3200, A (ix2 (i 0) k) * B (ix2 (i 1) k) : EReal) * s : EReal)

/-- The product of the gradient's codes with the weight's, scaled. -/
def dxF (A : FVec Ideal TY .fp8e5m2) (B : FVec Ideal TW .fp8e4m3) (s : EReal) : FVec Ideal TX .bf16 :=
  fun i => ((∑ k : Fin 2560, A (ix2 (i 0) k) * B (ix2 k (i 1)) : EReal) * s : EReal)

/-- The product of the gradient's codes with the activations' over the rows, scaled. -/
def dwF (A : FVec Ideal TY .fp8e5m2) (B : FVec Ideal TX .fp8e4m3) (s : EReal) : FVec Ideal TW .f32 :=
  fun i => ((∑ k : Fin 24576, A (ix2 k (i 0)) * B (ix2 k (i 1)) : EReal) * s : EReal)

/-- The new history: the three maxima in the first column, the older columns moved up by one. -/
def histF (a b c : EReal) (h : FVec Ideal TH .f32) : FVec Ideal TH .f32 := fun i =>
  if (i 1 : ℕ) < 1 then (if (i 0 : ℕ) < 1 then a else if (i 0 : ℕ) - 1 < 1 then b else c)
  else h (ix2 (i 0) ⟨(i 1 : ℕ) - 1, by have : (i 1 : ℕ) < 16 := (i 1).isLt; omega⟩)

/-- Two numbers with the same upper bounds are equal. -/
theorem eq_of_le_iff {a b : EReal} (h : ∀ z, a ≤ z ↔ b ≤ z) : a = b :=
  le_antisymm ((h b).mpr le_rfl) ((h a).mp le_rfl)

end Cert.Common

end
-- ==== Proof.KernelValue.lean ====
/-
  What the kernel leaves in the buffers of its ten results, as functions of its four arguments.
-/
module

public import proofs.«01_k».proof.Proof.HostReads
public import proofs.«01_k».proof.Proof.Region0
public import proofs.«01_k».proof.Proof.Region1
public import proofs.«01_k».proof.Proof.Region1MaxX
public import proofs.«01_k».proof.Proof.Region1MaxDy
public import proofs.«01_k».proof.Proof.Region2
public import proofs.«01_k».proof.Proof.Common

@[expose] public section

set_option maxRecDepth 16384

noncomputable section

namespace Cert.KernelIdeal.KernelValue

open Idealize.ShloMosaic Idealize.ShloMosaic.TcCoe Idealize.ShloMosaic.Tactic Idealize.ShloMosaic.StableHlo
open Cert.KernelIdeal Cert.KernelIdeal.Gen Cert.KernelIdeal.HostReads Cert.Scale Cert.Common
open Cert.KernelIdeal.Region1MaxX (amax_x amax_x_eq)
open Cert.KernelIdeal.Region1MaxDy (amax_dy amax_dy_eq)

/-- The three exponents as functions of the history. -/
def xE (h : FVec Ideal S3x16 .f32) : IVec S_ 32 := expo (row0 (rowMax h)) 0x3B124925#32
def wE (h : FVec Ideal S3x16 .f32) : IVec S_ 32 := expo (row1 (rowMax h)) 0x3B124925#32
def dyE (h : FVec Ideal S3x16 .f32) : IVec S_ 32 := expo (row2 (rowMax h)) 0x37924925#32

theorem four_0 (a b c d : FVec Ideal S_ .f32) : four a b c d (ix1 0) = a ix0 := by pointwise [four]
theorem four_1 (a b c d : FVec Ideal S_ .f32) : four a b c d (ix1 1) = b ix0 := by pointwise [four]
theorem four_2 (a b c d : FVec Ideal S_ .f32) : four a b c d (ix1 2) = c ix0 := by pointwise [four]
theorem four_3 (a b c d : FVec Ideal S_ .f32) : four a b c d (ix1 3) = d ix0 := by pointwise [four]

theorem newHist_eq (a b c : EReal) (h : FVec Ideal S3x16 .f32) :
    newHist (fun _ => a) (fun _ => b) (fun _ => c) h = histF a b c h := by
  funext i
  pointwise [newHist, histF]
  split_ifs <;> rfl

variable (m : (ℓ : Loc nD τ sig) → Buf (Elt Ideal) ℓ) (ρ : Dev nD → PrngReg) (c : Dev nD)

/-- The arguments. -/
abbrev aX : FVec Ideal S4x6144x3200 .bf16 := m ((c : Thread nD τ).loc main_arg0)
abbrev aW : FVec Ideal S2560x3200 .bf16 := m ((c : Thread nD τ).loc main_arg1)
abbrev aDy : FVec Ideal S4x6144x2560 .bf16 := m ((c : Thread nD τ).loc main_arg2)
abbrev aH : FVec Ideal S3x16 .f32 := m ((c : Thread nD τ).loc main_arg3)

/-- The flattened activations and gradient. -/
abbrev fX : FVec Ideal S24576x3200 .bf16 := shapeCast S24576x3200 (aX m c) shapeCasts_S4x6144x3200_S24576x3200
abbrev fDy : FVec Ideal S24576x2560 .bf16 := shapeCast S24576x2560 (aDy m c) shapeCasts_S4x6144x2560_S24576x2560

theorem W0_h : W0 (F := Ideal) m ρ c (Proc.devRef .tc main_arg3) = aH m c := W0_args m ρ c main_arg3 (by decide)

theorem W1_v0 : W1 (F := Ideal) m ρ c (Proc.devRef .tc main_v0) = rowMax (aH m c) := by
  refine (s0_v0 (W0 (F := Ideal) m ρ c)).trans ?_
  rw [W0_h]
theorem W2_v0 : W2 (F := Ideal) m ρ c (Proc.devRef .tc main_v0) = rowMax (aH m c) := (W2_of m ρ c main_v0 (by decide)).trans (W1_v0 m ρ c)
theorem W3_v0 : W3 (F := Ideal) m ρ c (Proc.devRef .tc main_v0) = rowMax (aH m c) := (W3_of m ρ c main_v0 (by decide)).trans (W2_v0 m ρ c)
theorem W4_v0 : W4 (F := Ideal) m ρ c (Proc.devRef .tc main_v0) = rowMax (aH m c) := (W4_of m ρ c main_v0 (by decide)).trans (W3_v0 m ρ c)

theorem W2_v21 : W2 (F := Ideal) m ρ c (Proc.devRef .tc main_v21) = xE (aH m c) := by
  refine (s1_exp (W1 (F := Ideal) m ρ c)).trans ?_
  rw [show W1 (F := Ideal) m ρ c _ = _ from s0_zero (W0 (F := Ideal) m ρ c), show W1 (F := Ideal) m ρ c _ = _ from s0_c (W0 (F := Ideal) m ρ c), show W1 (F := Ideal) m ρ c _ = _ from s0_raw (W0 (F := Ideal) m ρ c), W0_h, expo_eq, xE]
theorem W3_v24 : W3 (F := Ideal) m ρ c (Proc.devRef .tc main_v24) = kScale (xE (aH m c)) := by
  refine (s2_scale (W2 (F := Ideal) m ρ c)).trans ?_
  rw [W2_v21]
theorem W3_v28 : W3 (F := Ideal) m ρ c (Proc.devRef .tc main_v28) = kInv (xE (aH m c)) := by
  refine (s2_inv (W2 (F := Ideal) m ρ c)).trans ?_
  rw [W2_v21]

theorem W4_v49 : W4 (F := Ideal) m ρ c (Proc.devRef .tc main_v49) = wE (aH m c) := by
  refine (s3_exp (W3 (F := Ideal) m ρ c)).trans ?_
  rw [show W3 (F := Ideal) m ρ c _ = _ from s2_zero (W2 (F := Ideal) m ρ c), show W3 (F := Ideal) m ρ c _ = _ from s2_c (W2 (F := Ideal) m ρ c), show W3 (F := Ideal) m ρ c _ = _ from s2_raw (W2 (F := Ideal) m ρ c), W2_v0, expo_eq, wE]
theorem W5_v52 : W5 (F := Ideal) m ρ c (Proc.devRef .tc main_v52) = kScale (wE (aH m c)) := by
  refine (s4_scale (W4 (F := Ideal) m ρ c)).trans ?_
  rw [W4_v49]
theorem W5_v56 : W5 (F := Ideal) m ρ c (Proc.devRef .tc main_v56) = kInv (wE (aH m c)) := by
  refine (s4_inv (W4 (F := Ideal) m ρ c)).trans ?_
  rw [W4_v49]

theorem W6_v77 : W6 (F := Ideal) m ρ c (Proc.devRef .tc main_v77) = dyE (aH m c) := by
  refine (s5_exp (W5 (F := Ideal) m ρ c)).trans ?_
  rw [show W5 (F := Ideal) m ρ c _ = _ from s4_zero (W4 (F := Ideal) m ρ c), show W5 (F := Ideal) m ρ c _ = _ from s4_c (W4 (F := Ideal) m ρ c), show W5 (F := Ideal) m ρ c _ = _ from s4_raw (W4 (F := Ideal) m ρ c), W4_v0, expo_eq, dyE]
theorem W7_v80 : W7 (F := Ideal) m ρ c (Proc.devRef .tc main_v80) = kScale (dyE (aH m c)) := by
  refine (s6_scale (W6 (F := Ideal) m ρ c)).trans ?_
  rw [W6_v77]
theorem W7_v84 : W7 (F := Ideal) m ρ c (Proc.devRef .tc main_v84) = kInv (dyE (aH m c)) := by
  refine (s6_inv (W6 (F := Ideal) m ρ c)).trans ?_
  rw [W6_v77]
theorem W7_v85 : W7 (F := Ideal) m ρ c (Proc.devRef .tc main_v85) = broadcastInDim S1 ![] bcast_S_S1 (kInv (wE (aH m c))) := by
  refine (s6_winv (W6 (F := Ideal) m ρ c)).trans ?_
  rw [W6_of m ρ c main_v56 (by decide), W5_v56]

theorem W7_v24 : W7 (F := Ideal) m ρ c (Proc.devRef .tc main_v24) = kScale (xE (aH m c)) :=
  (W7_of m ρ c main_v24 (by decide)).trans <| (W6_of m ρ c main_v24 (by decide)).trans <| (W5_of m ρ c main_v24 (by decide)).trans <|
    (W4_of m ρ c main_v24 (by decide)).trans (W3_v24 m ρ c)
theorem W7_v28 : W7 (F := Ideal) m ρ c (Proc.devRef .tc main_v28) = kInv (xE (aH m c)) :=
  (W7_of m ρ c main_v28 (by decide)).trans <| (W6_of m ρ c main_v28 (by decide)).trans <| (W5_of m ρ c main_v28 (by decide)).trans <|
    (W4_of m ρ c main_v28 (by decide)).trans (W3_v28 m ρ c)
theorem W7_v52 : W7 (F := Ideal) m ρ c (Proc.devRef .tc main_v52) = kScale (wE (aH m c)) :=
  (W7_of m ρ c main_v52 (by decide)).trans <| (W6_of m ρ c main_v52 (by decide)).trans (W5_v52 m ρ c)

/-- What the first region finds unchanged it leaves unchanged. -/
theorem W8_v24 : W8 (F := Ideal) m ρ c (Proc.devRef .tc main_v24) = kScale (xE (aH m c)) := (W8_of m ρ c main_v24 (by decide)).trans (W7_v24 m ρ c)
theorem W8_v28 : W8 (F := Ideal) m ρ c (Proc.devRef .tc main_v28) = kInv (xE (aH m c)) := (W8_of m ρ c main_v28 (by decide)).trans (W7_v28 m ρ c)
theorem W8_v52 : W8 (F := Ideal) m ρ c (Proc.devRef .tc main_v52) = kScale (wE (aH m c)) := (W8_of m ρ c main_v52 (by decide)).trans (W7_v52 m ρ c)
theorem W8_v80 : W8 (F := Ideal) m ρ c (Proc.devRef .tc main_v80) = kScale (dyE (aH m c)) := (W8_of m ρ c main_v80 (by decide)).trans (W7_v80 m ρ c)
theorem W8_v84 : W8 (F := Ideal) m ρ c (Proc.devRef .tc main_v84) = kInv (dyE (aH m c)) := (W8_of m ρ c main_v84 (by decide)).trans (W7_v84 m ρ c)

/-- The weight's codes. -/
def cW : FVec Ideal S2560x3200 .fp8e4m3 := codes4 (aW m c) (kInv (wE (aH m c)) ix0)
/-- The activations' codes. -/
def cX : FVec Ideal S24576x3200 .fp8e4m3 := codes4 (fX m c) (kInv (xE (aH m c)) ix0)
/-- The gradient's codes. -/
def cDy : FVec Ideal S24576x2560 .fp8e5m2 := codes5 (fDy m c) (kInv (dyE (aH m c)) ix0)

theorem V7_w : V7 (F := Ideal) m ρ c main_arg1 = aW m c := W7_args m ρ c main_arg1 (by decide)
theorem V7_winv : V7 (F := Ideal) m ρ c main_v85 = broadcastInDim S1 ![] bcast_S_S1 (kInv (wE (aH m c))) := W7_v85 m ρ c

theorem W8_wc : W8 (F := Ideal) m ρ c (Proc.devRef .tc main_v86_0) = cW m c := by
  refine (W8_arr m ρ c 2).trans ((Region0.codes (V7 (F := Ideal) m ρ) c).trans ?_)
  rw [V7_w, V7_winv]
  rfl

theorem W8_wmax : W8 (F := Ideal) m ρ c (Proc.devRef .tc main_v86_1) = fun _ => Region0.amax (V7 (F := Ideal) m ρ) c :=
  (W8_arr m ρ c 3).trans (Region0.amax_eq (V7 (F := Ideal) m ρ) c)

theorem V9_x : V9 (F := Ideal) m ρ c main_v87 = fX m c := by
  refine (s7_x (W8 (F := Ideal) m ρ c)).trans ?_
  rw [W8_args m ρ c main_arg0 (by decide)]
theorem V9_dy : V9 (F := Ideal) m ρ c main_v88 = fDy m c := by
  refine (s7_dy (W8 (F := Ideal) m ρ c)).trans ?_
  rw [W8_args m ρ c main_arg2 (by decide)]
theorem V9_wc : V9 (F := Ideal) m ρ c main_v86_0 = cW m c := (W9_of m ρ c main_v86_0 (by decide)).trans (W8_wc m ρ c)
theorem V9_s : V9 (F := Ideal) m ρ c main_v95 = four (kInv (xE (aH m c))) (kInv (dyE (aH m c))) (mulf (F := Ideal) (kScale (xE (aH m c))) (kScale (wE (aH m c))))
    (mulf (F := Ideal) (kScale (dyE (aH m c))) (kScale (wE (aH m c)))) := by
  refine (s7_s (W8 (F := Ideal) m ρ c)).trans ?_
  rw [W8_v28, W8_v84, W8_v24, W8_v52, W8_v80]

theorem W10_xc : W10 (F := Ideal) m ρ c (Proc.devRef .tc main_v96_0) = cX m c := by
  refine (W10_arr m ρ c 4).trans ((Region1.xcodes (V9 (F := Ideal) m ρ) c).trans ?_)
  rw [V9_x, V9_s, four_0]
  rfl
theorem W10_dyc : W10 (F := Ideal) m ρ c (Proc.devRef .tc main_v96_1) = cDy m c := by
  refine (W10_arr m ρ c 5).trans ((Region1.dycodes (V9 (F := Ideal) m ρ) c).trans ?_)
  rw [V9_dy, V9_s, four_1]
  rfl
theorem W10_y : W10 (F := Ideal) m ρ c (Proc.devRef .tc main_v96_2) = yF (cX m c) (cW m c) (kScale (xE (aH m c)) ix0 * kScale (wE (aH m c)) ix0 : EReal) := by
  refine (W10_arr m ρ c 6).trans ((Region1.y_eq (V9 (F := Ideal) m ρ) c).trans ?_)
  rw [V9_x, V9_wc, V9_s, four_0, four_2]
  rfl
theorem W10_dx : W10 (F := Ideal) m ρ c (Proc.devRef .tc main_v96_3) = dxF (cDy m c) (cW m c) (kScale (dyE (aH m c)) ix0 * kScale (wE (aH m c)) ix0 : EReal) := by
  refine (W10_arr m ρ c 7).trans ((Region1.dx_eq (V9 (F := Ideal) m ρ) c).trans ?_)
  rw [V9_dy, V9_wc, V9_s, four_1, four_3]
  rfl
theorem W10_xmax : W10 (F := Ideal) m ρ c (Proc.devRef .tc main_v96_4) = fun _ => amax_x (V9 (F := Ideal) m ρ) c :=
  (W10_arr m ρ c 8).trans (amax_x_eq (V9 (F := Ideal) m ρ) c)
theorem W10_dymax : W10 (F := Ideal) m ρ c (Proc.devRef .tc main_v96_5) = fun _ => amax_dy (V9 (F := Ideal) m ρ) c :=
  (W10_arr m ρ c 9).trans (amax_dy_eq (V9 (F := Ideal) m ρ) c)

theorem W10_v24 : W10 (F := Ideal) m ρ c (Proc.devRef .tc main_v24) = kScale (xE (aH m c)) :=
  (W10_of m ρ c main_v24 (by decide)).trans <| (W9_of m ρ c main_v24 (by decide)).trans (W8_v24 m ρ c)
theorem W10_v80 : W10 (F := Ideal) m ρ c (Proc.devRef .tc main_v80) = kScale (dyE (aH m c)) :=
  (W10_of m ρ c main_v80 (by decide)).trans <| (W9_of m ρ c main_v80 (by decide)).trans (W8_v80 m ρ c)

theorem V11_xc : V11 (F := Ideal) m ρ c main_v96_0 = cX m c := (W11_of m ρ c main_v96_0 (by decide)).trans (W10_xc m ρ c)
theorem V11_dyc : V11 (F := Ideal) m ρ c main_v96_1 = cDy m c := (W11_of m ρ c main_v96_1 (by decide)).trans (W10_dyc m ρ c)
theorem V11_s : V11 (F := Ideal) m ρ c main_v98 = broadcastInDim S1 ![] bcast_S_S1 (mulf (F := Ideal) (φ := .f32) (s := S_) (kScale (dyE (aH m c))) (kScale (xE (aH m c)))) := by
  refine (s8_s (W10 (F := Ideal) m ρ c)).trans ?_
  rw [W10_v80, W10_v24]

theorem W12_dw : W12 (F := Ideal) m ρ c (Proc.devRef .tc main_v99) = dwF (cDy m c) (cX m c) (kScale (dyE (aH m c)) ix0 * kScale (xE (aH m c)) ix0 : EReal) := by
  refine (W12_arr m ρ c 3).trans ((Region2.dw_eq (V11 (F := Ideal) m ρ) c).trans ?_)
  rw [V11_xc, V11_dyc, V11_s]
  rfl

/-- A buffer that neither the last region nor the stretches around it write is, at the end, as the second region left it. -/
theorem W12_of_W10 (r : Ref sig .tc) (h2 : ∀ w : Fin cfg2.W, Pipeline.arrRef spec2 w = r → (cfg2.win w).isOut = false) (h1 : r ∉ hostOps2_W) :
    W12 (F := Ideal) m ρ c (Proc.devRef .tc r) = W10 (F := Ideal) m ρ c (Proc.devRef .tc r) :=
  (W12_of m ρ c r h2).trans (W11_of m ρ c r h1)

/-- The ten results. -/
theorem res_y : W13 (F := Ideal) m ρ c (Proc.devRef .tc main_v103)
    = shapeCast S4x6144x2560 (yF (cX m c) (cW m c) (kScale (xE (aH m c)) ix0 * kScale (wE (aH m c)) ix0 : EReal)) shapeCasts_S24576x2560_S4x6144x2560 := by
  refine (s9_y (W12 (F := Ideal) m ρ c)).trans ?_
  rw [W12_of_W10 m ρ c main_v96_2 (by decide) (by decide), W10_y]
theorem res_dx : W13 (F := Ideal) m ρ c (Proc.devRef .tc main_v104)
    = shapeCast S4x6144x3200 (dxF (cDy m c) (cW m c) (kScale (dyE (aH m c)) ix0 * kScale (wE (aH m c)) ix0 : EReal)) shapeCasts_S24576x3200_S4x6144x3200 := by
  refine (s9_dx (W12 (F := Ideal) m ρ c)).trans ?_
  rw [W12_of_W10 m ρ c main_v96_3 (by decide) (by decide), W10_dx]
theorem res_dw : W13 (F := Ideal) m ρ c (Proc.devRef .tc main_v99) = dwF (cDy m c) (cX m c) (kScale (dyE (aH m c)) ix0 * kScale (xE (aH m c)) ix0 : EReal) :=
  (W13_of m ρ c main_v99 (by decide)).trans (W12_dw m ρ c)
theorem res_xc : W13 (F := Ideal) m ρ c (Proc.devRef .tc main_v105) = shapeCast S4x6144x3200 (cX m c) shapeCasts_S24576x3200_S4x6144x3200 := by
  refine (s9_xc (W12 (F := Ideal) m ρ c)).trans ?_
  rw [W12_of_W10 m ρ c main_v96_0 (by decide) (by decide), W10_xc]
theorem res_dyc : W13 (F := Ideal) m ρ c (Proc.devRef .tc main_v106) = shapeCast S4x6144x2560 (cDy m c) shapeCasts_S24576x2560_S4x6144x2560 := by
  refine (s9_dyc (W12 (F := Ideal) m ρ c)).trans ?_
  rw [W12_of_W10 m ρ c main_v96_1 (by decide) (by decide), W10_dyc]
theorem res_wc : W13 (F := Ideal) m ρ c (Proc.devRef .tc main_v86_0) = cW m c :=
  (W13_of m ρ c main_v86_0 (by decide)).trans <| (W12_of_W10 m ρ c main_v86_0 (by decide) (by decide)).trans <|
    (W10_of m ρ c main_v86_0 (by decide)).trans (V9_wc m ρ c)
theorem res_xs : W13 (F := Ideal) m ρ c (Proc.devRef .tc main_v24) = kScale (xE (aH m c)) :=
  (W13_of m ρ c main_v24 (by decide)).trans <| (W12_of_W10 m ρ c main_v24 (by decide) (by decide)).trans (W10_v24 m ρ c)
theorem res_ws : W13 (F := Ideal) m ρ c (Proc.devRef .tc main_v52) = kScale (wE (aH m c)) :=
  (W13_of m ρ c main_v52 (by decide)).trans <| (W12_of_W10 m ρ c main_v52 (by decide) (by decide)).trans <|
    (W10_of m ρ c main_v52 (by decide)).trans <| (W9_of m ρ c main_v52 (by decide)).trans (W8_v52 m ρ c)
theorem res_dys : W13 (F := Ideal) m ρ c (Proc.devRef .tc main_v80) = kScale (dyE (aH m c)) :=
  (W13_of m ρ c main_v80 (by decide)).trans <| (W12_of_W10 m ρ c main_v80 (by decide) (by decide)).trans (W10_v80 m ρ c)
theorem res_hist : W13 (F := Ideal) m ρ c (Proc.devRef .tc main_v102)
    = histF (amax_x (V9 (F := Ideal) m ρ) c) (Region0.amax (V7 (F := Ideal) m ρ) c) (amax_dy (V9 (F := Ideal) m ρ) c) (aH m c) := by
  refine (s9_hist (W12 (F := Ideal) m ρ c)).trans ?_
  rw [W12_of_W10 m ρ c main_v96_4 (by decide) (by decide), W12_of_W10 m ρ c main_v96_5 (by decide) (by decide),
    W12_of_W10 m ρ c main_v86_1 (by decide) (by decide), W10_of m ρ c main_v86_1 (by decide), W9_of m ρ c main_v86_1 (by decide),
    W10_xmax, W10_dymax, W8_wmax, W12_args m ρ c main_arg3 (by decide)]
  exact newHist_eq _ _ _ _

end Cert.KernelIdeal.KernelValue

end
-- ==== Proof.RefValue.lean ====
/-
  The reference's arrays as functions of its arguments.
-/
module

public import proofs.«01_k».proof.Defs
public import proofs.«01_k».proof.Proof.Gen.ReferenceIdeal.Frame
public import proofs.«01_k».proof.Proof.Gen.ReferenceIdeal.Value
public import proofs.«01_k».proof.Proof.Spec
public import Idealize.ShloMosaic.Lib.ValueIdx
public import Idealize.ShloMosaic.Lib.Pipeline.Value
public import Idealize.ShloMosaic.Lib.Pipeline.ValueKit

@[expose] public section

set_option maxRecDepth 16384

noncomputable section

namespace Cert.ReferenceIdeal.RefValue

open Idealize.ShloMosaic Idealize.ShloMosaic.TcCoe Idealize.ShloMosaic.Tactic
open Idealize.ShloMosaic.Pipeline (Dat Cfg Window)
open Cert.ReferenceIdeal Cert.ReferenceIdeal.Gen Cert.Spec

variable (m : (ℓ : Loc nD τ sig) → Buf (Elt Ideal) ℓ) (c : Dev nD)

/-- Every window's one block starts at the array's origin. -/
theorem idx : ∀ t : Fin cfg0.N, win0_0.index t = ![0] ∧ win0_1.index t = ![0, 0, 0] ∧ win0_2.index t = ![0, 0] ∧ win0_3.index t = ![0, 0, 0]
    ∧ win0_4.index t = ![0, 0, 0] ∧ win0_5.index t = ![0, 0, 0] ∧ win0_6.index t = ![0, 0] ∧ win0_7.index t = ![0, 0, 0]
    ∧ win0_8.index t = ![0, 0] ∧ win0_9.index t = ![0, 0, 0] :=
  (by decide +kernel : ∀ t : Fin grid0.N, _)

theorem s_read (X : FVec Ideal S6 .f32) : ((cfg0.win 0).blk t0_0).view.read (Elt Ideal) X = X := by
  funext j
  blk_point [idx t0_0]

theorem s_block : iblk m c 0 t0_0 = V m c main_v62 := s_read (V m c main_v62)

theorem x_read (X : FVec Ideal S4x6144x3200 .bf16) : ((cfg0.win 1).blk t0_0).view.read (Elt Ideal) X = X := by
  funext j
  blk_point [idx t0_0]

theorem x_block : iblk m c 1 t0_0 = V m c main_arg0 := x_read (V m c main_arg0)

theorem w_read (X : FVec Ideal S2560x3200 .bf16) : ((cfg0.win 2).blk t0_0).view.read (Elt Ideal) X = X := by
  funext j
  blk_point [idx t0_0]

theorem w_block : iblk m c 2 t0_0 = V m c main_arg1 := w_read (V m c main_arg1)

theorem dy_read (X : FVec Ideal S4x6144x2560 .bf16) : ((cfg0.win 3).blk t0_0).view.read (Elt Ideal) X = X := by
  funext j
  blk_point [idx t0_0]

theorem dy_block : iblk m c 3 t0_0 = V m c main_arg2 := dy_read (V m c main_arg2)

theorem s_at0 (s : FVec Ideal S6 .f32) (h) : View.ld (Val := Elt Ideal) (e' := .f32) s (Rect.unit ![0] ![1] inb_S6_S1_0) (Shape.Idx.first h) = s (ix1 0) :=
  congrArg s (funext fun a => by match a with | 0 => rfl)

theorem s_at1 (s : FVec Ideal S6 .f32) (h) : View.ld (Val := Elt Ideal) (e' := .f32) s (Rect.unit ![1] ![1] inb_S6_S1_1) (Shape.Idx.first h) = s (ix1 1) :=
  congrArg s (funext fun a => by match a with | 0 => rfl)

theorem s_at2 (s : FVec Ideal S6 .f32) (h) : View.ld (Val := Elt Ideal) (e' := .f32) s (Rect.unit ![2] ![1] inb_S6_S1_2) (Shape.Idx.first h) = s (ix1 2) :=
  congrArg s (funext fun a => by match a with | 0 => rfl)

theorem s_at3 (s : FVec Ideal S6 .f32) (h) : View.ld (Val := Elt Ideal) (e' := .f32) s (Rect.unit ![3] ![1] inb_S6_S1_3) (Shape.Idx.first h) = s (ix1 3) :=
  congrArg s (funext fun a => by match a with | 0 => rfl)

theorem s_at4 (s : FVec Ideal S6 .f32) (h) : View.ld (Val := Elt Ideal) (e' := .f32) s (Rect.unit ![4] ![1] inb_S6_S1_4) (Shape.Idx.first h) = s (ix1 4) :=
  congrArg s (funext fun a => by match a with | 0 => rfl)

theorem s_at5 (s : FVec Ideal S6 .f32) (h) : View.ld (Val := Elt Ideal) (e' := .f32) s (Rect.unit ![5] ![1] inb_S6_S1_5) (Shape.Idx.first h) = s (ix1 5) :=
  congrArg s (funext fun a => by match a with | 0 => rfl)

/-- The reference's six arrays as functions of the six scalars and the three operands. -/
def yOf (s : FVec Ideal S6 .f32) (x : FVec Ideal S4x6144x3200 .bf16) (w : FVec Ideal S2560x3200 .bf16) (dy : FVec Ideal S4x6144x2560 .bf16) : FVec Ideal S4x6144x2560 .bf16 :=
  k0_pay1 (F := Ideal) (k0_pay9 (s (ix1 0)) (s (ix1 1)) (s (ix1 3)) (s (ix1 4)) x w)
def dxOf (s : FVec Ideal S6 .f32) (x : FVec Ideal S4x6144x3200 .bf16) (w : FVec Ideal S2560x3200 .bf16) (dy : FVec Ideal S4x6144x2560 .bf16) : FVec Ideal S4x6144x3200 .bf16 :=
  k0_pay2 (F := Ideal) (s (ix1 1)) (s (ix1 2)) (k0_pay7 (s (ix1 4)) w) (k0_pay8 (s (ix1 5)) dy)
def dwOf (s : FVec Ideal S6 .f32) (x : FVec Ideal S4x6144x3200 .bf16) (w : FVec Ideal S2560x3200 .bf16) (dy : FVec Ideal S4x6144x2560 .bf16) : FVec Ideal S2560x3200 .f32 :=
  k0_pay3 (F := Ideal) (s (ix1 0)) (s (ix1 2)) (k0_pay6 (s (ix1 3)) x) (k0_pay8 (s (ix1 5)) dy)
def xcOf (s : FVec Ideal S6 .f32) (x : FVec Ideal S4x6144x3200 .bf16) (w : FVec Ideal S2560x3200 .bf16) (dy : FVec Ideal S4x6144x2560 .bf16) : FVec Ideal S4x6144x3200 .fp8e4m3 :=
  k0_pay4 (F := Ideal) (k0_pay6 (s (ix1 3)) x)
def wcOf (s : FVec Ideal S6 .f32) (x : FVec Ideal S4x6144x3200 .bf16) (w : FVec Ideal S2560x3200 .bf16) (dy : FVec Ideal S4x6144x2560 .bf16) : FVec Ideal S2560x3200 .fp8e4m3 :=
  k0_pay7 (F := Ideal) (s (ix1 4)) w
def dycOf (s : FVec Ideal S6 .f32) (x : FVec Ideal S4x6144x3200 .bf16) (w : FVec Ideal S2560x3200 .bf16) (dy : FVec Ideal S4x6144x2560 .bf16) : FVec Ideal S4x6144x2560 .fp8e5m2 :=
  k0_pay5 (F := Ideal) (k0_pay8 (s (ix1 5)) dy)

theorem y_eq : (dats m 0 c).arrAt 4 cfg0.N = yOf (V m c main_v62) (V m c main_arg0) (V m c main_arg1) (V m c main_arg2) := by
  refine (dats m 0 c).arrAt_eq_of_after_last 4 t0_0 (by decide +kernel) _ fun j => ?_
  blk_simp
  rw [Gen.after0_4]
  unfold outsAt0
  dsimp only
  rw [s_block, x_block, w_block, dy_block]
  generalize V m c main_v62 = s, V m c main_arg0 = x, V m c main_arg1 = w, V m c main_arg2 = dy
  have e0 : View.read (Elt Ideal) (View.whole cc0_stg0_0) ((hs0_0 t0_0).unread s) = s := (hs0_0 t0_0).read_unread s
  have e1 : View.read (Elt Ideal) (View.whole cc0_stg1_0) ((hs0_1 t0_0).unread x) = x := (hs0_1 t0_0).read_unread x
  have e2 : View.read (Elt Ideal) (View.whole cc0_stg2_0) ((hs0_2 t0_0).unread w) = w := (hs0_2 t0_0).read_unread w
  have e3 : View.read (Elt Ideal) (View.whole cc0_stg3_0) ((hs0_3 t0_0).unread dy) = dy := (hs0_3 t0_0).read_unread dy
  frame_out
  simp only [e0, e1, e2, e3]
  unfold yOf
  rw [s_at0, s_at1, s_at3, s_at4]

theorem dx_eq : (dats m 0 c).arrAt 5 cfg0.N = dxOf (V m c main_v62) (V m c main_arg0) (V m c main_arg1) (V m c main_arg2) := by
  refine (dats m 0 c).arrAt_eq_of_after_last 5 t0_0 (by decide +kernel) _ fun j => ?_
  blk_simp
  rw [Gen.after0_5]
  unfold outsAt0
  dsimp only
  rw [s_block, x_block, w_block, dy_block]
  generalize V m c main_v62 = s, V m c main_arg0 = x, V m c main_arg1 = w, V m c main_arg2 = dy
  have e0 : View.read (Elt Ideal) (View.whole cc0_stg0_0) ((hs0_0 t0_0).unread s) = s := (hs0_0 t0_0).read_unread s
  have e1 : View.read (Elt Ideal) (View.whole cc0_stg1_0) ((hs0_1 t0_0).unread x) = x := (hs0_1 t0_0).read_unread x
  have e2 : View.read (Elt Ideal) (View.whole cc0_stg2_0) ((hs0_2 t0_0).unread w) = w := (hs0_2 t0_0).read_unread w
  have e3 : View.read (Elt Ideal) (View.whole cc0_stg3_0) ((hs0_3 t0_0).unread dy) = dy := (hs0_3 t0_0).read_unread dy
  frame_out
  simp only [e0, e1, e2, e3]
  unfold dxOf
  rw [s_at1, s_at2, s_at4, s_at5]

theorem dw_eq : (dats m 0 c).arrAt 6 cfg0.N = dwOf (V m c main_v62) (V m c main_arg0) (V m c main_arg1) (V m c main_arg2) := by
  refine (dats m 0 c).arrAt_eq_of_after_last 6 t0_0 (by decide +kernel) _ fun j => ?_
  blk_simp
  rw [Gen.after0_6]
  unfold outsAt0
  dsimp only
  rw [s_block, x_block, w_block, dy_block]
  generalize V m c main_v62 = s, V m c main_arg0 = x, V m c main_arg1 = w, V m c main_arg2 = dy
  have e0 : View.read (Elt Ideal) (View.whole cc0_stg0_0) ((hs0_0 t0_0).unread s) = s := (hs0_0 t0_0).read_unread s
  have e1 : View.read (Elt Ideal) (View.whole cc0_stg1_0) ((hs0_1 t0_0).unread x) = x := (hs0_1 t0_0).read_unread x
  have e2 : View.read (Elt Ideal) (View.whole cc0_stg2_0) ((hs0_2 t0_0).unread w) = w := (hs0_2 t0_0).read_unread w
  have e3 : View.read (Elt Ideal) (View.whole cc0_stg3_0) ((hs0_3 t0_0).unread dy) = dy := (hs0_3 t0_0).read_unread dy
  frame_out
  simp only [e0, e1, e2, e3]
  unfold dwOf
  rw [s_at0, s_at2, s_at3, s_at5]

theorem xc_eq : (dats m 0 c).arrAt 7 cfg0.N = xcOf (V m c main_v62) (V m c main_arg0) (V m c main_arg1) (V m c main_arg2) := by
  refine (dats m 0 c).arrAt_eq_of_after_last 7 t0_0 (by decide +kernel) _ fun j => ?_
  blk_simp
  rw [Gen.after0_7]
  unfold outsAt0
  dsimp only
  rw [s_block, x_block, w_block, dy_block]
  generalize V m c main_v62 = s, V m c main_arg0 = x, V m c main_arg1 = w, V m c main_arg2 = dy
  have e0 : View.read (Elt Ideal) (View.whole cc0_stg0_0) ((hs0_0 t0_0).unread s) = s := (hs0_0 t0_0).read_unread s
  have e1 : View.read (Elt Ideal) (View.whole cc0_stg1_0) ((hs0_1 t0_0).unread x) = x := (hs0_1 t0_0).read_unread x
  have e2 : View.read (Elt Ideal) (View.whole cc0_stg2_0) ((hs0_2 t0_0).unread w) = w := (hs0_2 t0_0).read_unread w
  have e3 : View.read (Elt Ideal) (View.whole cc0_stg3_0) ((hs0_3 t0_0).unread dy) = dy := (hs0_3 t0_0).read_unread dy
  frame_out
  simp only [e0, e1, e2, e3]
  unfold xcOf
  rw [s_at3]

theorem wc_eq : (dats m 0 c).arrAt 8 cfg0.N = wcOf (V m c main_v62) (V m c main_arg0) (V m c main_arg1) (V m c main_arg2) := by
  refine (dats m 0 c).arrAt_eq_of_after_last 8 t0_0 (by decide +kernel) _ fun j => ?_
  blk_simp
  rw [Gen.after0_8]
  unfold outsAt0
  dsimp only
  rw [s_block, x_block, w_block, dy_block]
  generalize V m c main_v62 = s, V m c main_arg0 = x, V m c main_arg1 = w, V m c main_arg2 = dy
  have e0 : View.read (Elt Ideal) (View.whole cc0_stg0_0) ((hs0_0 t0_0).unread s) = s := (hs0_0 t0_0).read_unread s
  have e1 : View.read (Elt Ideal) (View.whole cc0_stg1_0) ((hs0_1 t0_0).unread x) = x := (hs0_1 t0_0).read_unread x
  have e2 : View.read (Elt Ideal) (View.whole cc0_stg2_0) ((hs0_2 t0_0).unread w) = w := (hs0_2 t0_0).read_unread w
  have e3 : View.read (Elt Ideal) (View.whole cc0_stg3_0) ((hs0_3 t0_0).unread dy) = dy := (hs0_3 t0_0).read_unread dy
  frame_out
  simp only [e0, e1, e2, e3]
  unfold wcOf
  rw [s_at4]

theorem dyc_eq : (dats m 0 c).arrAt 9 cfg0.N = dycOf (V m c main_v62) (V m c main_arg0) (V m c main_arg1) (V m c main_arg2) := by
  refine (dats m 0 c).arrAt_eq_of_after_last 9 t0_0 (by decide +kernel) _ fun j => ?_
  blk_simp
  rw [Gen.after0_9]
  unfold outsAt0
  dsimp only
  rw [s_block, x_block, w_block, dy_block]
  generalize V m c main_v62 = s, V m c main_arg0 = x, V m c main_arg1 = w, V m c main_arg2 = dy
  have e0 : View.read (Elt Ideal) (View.whole cc0_stg0_0) ((hs0_0 t0_0).unread s) = s := (hs0_0 t0_0).read_unread s
  have e1 : View.read (Elt Ideal) (View.whole cc0_stg1_0) ((hs0_1 t0_0).unread x) = x := (hs0_1 t0_0).read_unread x
  have e2 : View.read (Elt Ideal) (View.whole cc0_stg2_0) ((hs0_2 t0_0).unread w) = w := (hs0_2 t0_0).read_unread w
  have e3 : View.read (Elt Ideal) (View.whole cc0_stg3_0) ((hs0_3 t0_0).unread dy) = dy := (hs0_3 t0_0).read_unread dy
  frame_out
  simp only [e0, e1, e2, e3]
  unfold dycOf
  rw [s_at5]

end Cert.ReferenceIdeal.RefValue

end
-- ==== Proof.RefHost.lean ====
/-
  What the reference's host line leaves in the buffers the rest reads: the three scales, the history, the six scalars.
-/
module

public import proofs.«01_k».proof.Defs
public import proofs.«01_k».proof.Proof.Gen.ReferenceIdeal.Frame
public import proofs.«01_k».proof.Proof.Scale
public import Idealize.ShloMosaic.Lib.StableHlo.RunRead
public import Idealize.ShloMosaic.Lib.ValueIdx

@[expose] public section

set_option maxRecDepth 16384
set_option maxHeartbeats 1000000

noncomputable section

namespace Cert.ReferenceIdeal.RefHost

open Idealize.ShloMosaic Idealize.ShloMosaic.TcCoe Idealize.ShloMosaic.Tactic
open Idealize.ShloMosaic.StableHlo Idealize.ShloMosaic.ValueIdx
open Cert.ReferenceIdeal Cert.ReferenceIdeal.Gen Cert.Scale

/-- The maximum of each row of the history. -/
def rowMax (x : FVec Ideal S3x16 .f32) : FVec Ideal S3 .f32 :=
  Host.reduce FloatOps.maximumf x (constant S_ .f32 0xFF800000#32) reducesTo_S3x16_S3_d1 h_S_
/-- The three rows' maxima, each a number of its own. -/
def row0 (r : FVec Ideal S3 .f32) : FVec Ideal S_ .f32 := shapeCast S_ (extractStridedSlice S1 ![0] r slices_S3_S1_0) shapeCasts_S1_S_
def row1 (r : FVec Ideal S3 .f32) : FVec Ideal S_ .f32 := shapeCast S_ (extractStridedSlice S1 ![1] r slices_S3_S1_1) shapeCasts_S1_S_
def row2 (r : FVec Ideal S3 .f32) : FVec Ideal S_ .f32 := shapeCast S_ (extractStridedSlice S1 ![2] r slices_S3_S1_2) shapeCasts_S1_S_

/-- The table of powers of two each scale is picked from, once per scale. -/
def table0 : FVec Ideal S252 .f32 := fun i => FloatOps.ofBits .f32 (lit0 (S252.rowMajor i))
def table1 : FVec Ideal S252 .f32 := fun i => FloatOps.ofBits .f32 (lit1 (S252.rowMajor i))
def table2 : FVec Ideal S252 .f32 := fun i => FloatOps.ofBits .f32 (lit2 (S252.rowMajor i))

def scaleOf (P : FVec Ideal S252 .f32) (a : FVec Ideal S_ .f32) (k : BitVec 32) : FVec Ideal S_ .f32 :=
  rScale bcast_S_S252 reducesTo_S252_S_d0 h_S_ P a k

/-- The three scales as functions of the history. -/
def xScale (h : FVec Ideal S3x16 .f32) : FVec Ideal S_ .f32 := scaleOf table0 (row0 (rowMax h)) 0x3B124925#32
def wScale (h : FVec Ideal S3x16 .f32) : FVec Ideal S_ .f32 := scaleOf table1 (row1 (rowMax h)) 0x3B124925#32
def dyScale (h : FVec Ideal S3x16 .f32) : FVec Ideal S_ .f32 := scaleOf table2 (row2 (rowMax h)) 0x37924925#32

/-- One over a scale. -/
def recip (s : FVec Ideal S_ .f32) : FVec Ideal S_ .f32 := Host.divf (constant S_ .f32 0x3F800000#32) s

/-- The six scalars the body reads. -/
def six (a b c : FVec Ideal S_ .f32) : FVec Ideal S6 .f32 :=
  concatenate S6 0 [⟨S1, broadcastInDim S1 ![] bcast_S_S1 a⟩, ⟨S1, broadcastInDim S1 ![] bcast_S_S1 b⟩, ⟨S1, broadcastInDim S1 ![] bcast_S_S1 c⟩,
    ⟨S1, broadcastInDim S1 ![] bcast_S_S1 (recip a)⟩, ⟨S1, broadcastInDim S1 ![] bcast_S_S1 (recip b)⟩,
    ⟨S1, broadcastInDim S1 ![] bcast_S_S1 (recip c)⟩] concatenates_S1_S1_S1_S1_S1_S1_S6_d0

/-- The largest magnitude of each operand. -/
def xMax (x : FVec Ideal S4x6144x3200 .bf16) : FVec Ideal S_ .f32 :=
  Host.reduce FloatOps.maximumf (Host.absf (extf .f32 x bitsLt_bf16_f32)) (constant S_ .f32 0xFF800000#32) reducesTo_S4x6144x3200_S_d0_1_2 h_S_
def wMax (x : FVec Ideal S2560x3200 .bf16) : FVec Ideal S_ .f32 :=
  Host.reduce FloatOps.maximumf (Host.absf (extf .f32 x bitsLt_bf16_f32)) (constant S_ .f32 0xFF800000#32) reducesTo_S2560x3200_S_d0_1 h_S_
def dyMax (x : FVec Ideal S4x6144x2560 .bf16) : FVec Ideal S_ .f32 :=
  Host.reduce FloatOps.maximumf (Host.absf (extf .f32 x bitsLt_bf16_f32)) (constant S_ .f32 0xFF800000#32) reducesTo_S4x6144x2560_S_d0_1_2 h_S_

/-- The new history: the three maxima in front, the oldest column dropped. -/
def newHist (a b c : FVec Ideal S_ .f32) (h : FVec Ideal S3x16 .f32) : FVec Ideal S3x16 .f32 :=
  concatenate S3x16 1 [⟨S3x1, broadcastInDim S3x1 ![0] bcast_S3_S3x1_0 (concatenate S3 0 [⟨S1, broadcastInDim S1 ![] bcast_S_S1 a⟩,
      ⟨S1, broadcastInDim S1 ![] bcast_S_S1 b⟩, ⟨S1, broadcastInDim S1 ![] bcast_S_S1 c⟩] concatenates_S1_S1_S1_S3_d0)⟩,
    ⟨S3x15, extractStridedSlice S3x15 ![0, 0] h slices_S3x16_S3x15_0_0⟩] concatenates_S3x1_S3x15_S3x16_d1

section Lists
variable {F : FTy → Type} [FloatOps F]

/-- The operations that take the three maxima and assemble the new history. -/
abbrev maxOps : List (HloOp τ sig (Elt F)) :=
  [ StableHlo.unary main_arg0 main_v37 ((extf .f32 · bitsLt_bf16_f32) : (⟨S4x6144x3200, .bf16⟩ : BufTy).Contents (Elt F) → (⟨S4x6144x3200, .f32⟩ : BufTy).Contents (Elt F))
  , StableHlo.unary main_v37 main_v38 (Host.absf : (⟨S4x6144x3200, .f32⟩ : BufTy).Contents (Elt F) → (⟨S4x6144x3200, .f32⟩ : BufTy).Contents (Elt F))
  , StableHlo.nullary main_cst_21 (constant S_ .f32 0xFF800000#32)
  , StableHlo.binary main_v38 main_cst_21 main_v39 ((fun x v => Host.reduce FloatOps.maximumf x v reducesTo_S4x6144x3200_S_d0_1_2 h_S_) : (⟨S4x6144x3200, .f32⟩ : BufTy).Contents (Elt F) → (⟨S_, .f32⟩ : BufTy).Contents (Elt F) → (⟨S_, .f32⟩ : BufTy).Contents (Elt F))
  , StableHlo.unary main_arg1 main_v40 ((extf .f32 · bitsLt_bf16_f32) : (⟨S2560x3200, .bf16⟩ : BufTy).Contents (Elt F) → (⟨S2560x3200, .f32⟩ : BufTy).Contents (Elt F))
  , StableHlo.unary main_v40 main_v41 (Host.absf : (⟨S2560x3200, .f32⟩ : BufTy).Contents (Elt F) → (⟨S2560x3200, .f32⟩ : BufTy).Contents (Elt F))
  , StableHlo.nullary main_cst_22 (constant S_ .f32 0xFF800000#32)
  , StableHlo.binary main_v41 main_cst_22 main_v42 ((fun x v => Host.reduce FloatOps.maximumf x v reducesTo_S2560x3200_S_d0_1 h_S_) : (⟨S2560x3200, .f32⟩ : BufTy).Contents (Elt F) → (⟨S_, .f32⟩ : BufTy).Contents (Elt F) → (⟨S_, .f32⟩ : BufTy).Contents (Elt F))
  , StableHlo.unary main_arg2 main_v43 ((extf .f32 · bitsLt_bf16_f32) : (⟨S4x6144x2560, .bf16⟩ : BufTy).Contents (Elt F) → (⟨S4x6144x2560, .f32⟩ : BufTy).Contents (Elt F))
  , StableHlo.unary main_v43 main_v44 (Host.absf : (⟨S4x6144x2560, .f32⟩ : BufTy).Contents (Elt F) → (⟨S4x6144x2560, .f32⟩ : BufTy).Contents (Elt F))
  , StableHlo.nullary main_cst_23 (constant S_ .f32 0xFF800000#32)
  , StableHlo.binary main_v44 main_cst_23 main_v45 ((fun x v => Host.reduce FloatOps.maximumf x v reducesTo_S4x6144x2560_S_d0_1_2 h_S_) : (⟨S4x6144x2560, .f32⟩ : BufTy).Contents (Elt F) → (⟨S_, .f32⟩ : BufTy).Contents (Elt F) → (⟨S_, .f32⟩ : BufTy).Contents (Elt F))
  , StableHlo.unary main_v39 main_v46 (broadcastInDim S1 ![] bcast_S_S1 : (⟨S_, .f32⟩ : BufTy).Contents (Elt F) → (⟨S1, .f32⟩ : BufTy).Contents (Elt F))
  , StableHlo.unary main_v42 main_v47 (broadcastInDim S1 ![] bcast_S_S1 : (⟨S_, .f32⟩ : BufTy).Contents (Elt F) → (⟨S1, .f32⟩ : BufTy).Contents (Elt F))
  , StableHlo.unary main_v45 main_v48 (broadcastInDim S1 ![] bcast_S_S1 : (⟨S_, .f32⟩ : BufTy).Contents (Elt F) → (⟨S1, .f32⟩ : BufTy).Contents (Elt F))
  , StableHlo.nary ![main_v46, main_v47, main_v48] main_v49 (fun u => (concatenate S3 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩] concatenates_S1_S1_S1_S3_d0 : (⟨S3, .f32⟩ : BufTy).Contents (Elt F)))
  , StableHlo.unary main_v49 main_v50 (broadcastInDim S3x1 ![0] bcast_S3_S3x1_0 : (⟨S3, .f32⟩ : BufTy).Contents (Elt F) → (⟨S3x1, .f32⟩ : BufTy).Contents (Elt F))
  , StableHlo.unary main_arg3 main_v51 ((extractStridedSlice S3x15 ![0, 0] · slices_S3x16_S3x15_0_0) : (⟨S3x16, .f32⟩ : BufTy).Contents (Elt F) → (⟨S3x15, .f32⟩ : BufTy).Contents (Elt F))
  , StableHlo.binary main_v50 main_v51 main_v52 ((fun a b => concatenate S3x16 1 [⟨S3x1, a⟩, ⟨S3x15, b⟩] concatenates_S3x1_S3x15_S3x16_d1) : (⟨S3x1, .f32⟩ : BufTy).Contents (Elt F) → (⟨S3x15, .f32⟩ : BufTy).Contents (Elt F) → (⟨S3x16, .f32⟩ : BufTy).Contents (Elt F)) ]

/-- The operations that pack the six scalars. -/
abbrev packOps : List (HloOp τ sig (Elt F)) :=
  [ StableHlo.nullary main_cst_24 (constant S_ .f32 0x3F800000#32)
  , StableHlo.binary main_cst_24 main_v12 main_v53 (Host.divf : (⟨S_, .f32⟩ : BufTy).Contents (Elt F) → (⟨S_, .f32⟩ : BufTy).Contents (Elt F) → (⟨S_, .f32⟩ : BufTy).Contents (Elt F))
  , StableHlo.nullary main_cst_25 (constant S_ .f32 0x3F800000#32)
  , StableHlo.binary main_cst_25 main_v24 main_v54 (Host.divf : (⟨S_, .f32⟩ : BufTy).Contents (Elt F) → (⟨S_, .f32⟩ : BufTy).Contents (Elt F) → (⟨S_, .f32⟩ : BufTy).Contents (Elt F))
  , StableHlo.nullary main_cst_26 (constant S_ .f32 0x3F800000#32)
  , StableHlo.binary main_cst_26 main_v36 main_v55 (Host.divf : (⟨S_, .f32⟩ : BufTy).Contents (Elt F) → (⟨S_, .f32⟩ : BufTy).Contents (Elt F) → (⟨S_, .f32⟩ : BufTy).Contents (Elt F))
  , StableHlo.unary main_v12 main_v56 (broadcastInDim S1 ![] bcast_S_S1 : (⟨S_, .f32⟩ : BufTy).Contents (Elt F) → (⟨S1, .f32⟩ : BufTy).Contents (Elt F))
  , StableHlo.unary main_v24 main_v57 (broadcastInDim S1 ![] bcast_S_S1 : (⟨S_, .f32⟩ : BufTy).Contents (Elt F) → (⟨S1, .f32⟩ : BufTy).Contents (Elt F))
  , StableHlo.unary main_v36 main_v58 (broadcastInDim S1 ![] bcast_S_S1 : (⟨S_, .f32⟩ : BufTy).Contents (Elt F) → (⟨S1, .f32⟩ : BufTy).Contents (Elt F))
  , StableHlo.unary main_v53 main_v59 (broadcastInDim S1 ![] bcast_S_S1 : (⟨S_, .f32⟩ : BufTy).Contents (Elt F) → (⟨S1, .f32⟩ : BufTy).Contents (Elt F))
  , StableHlo.unary main_v54 main_v60 (broadcastInDim S1 ![] bcast_S_S1 : (⟨S_, .f32⟩ : BufTy).Contents (Elt F) → (⟨S1, .f32⟩ : BufTy).Contents (Elt F))
  , StableHlo.unary main_v55 main_v61 (broadcastInDim S1 ![] bcast_S_S1 : (⟨S_, .f32⟩ : BufTy).Contents (Elt F) → (⟨S1, .f32⟩ : BufTy).Contents (Elt F))
  , StableHlo.nary ![main_v56, main_v57, main_v58, main_v59, main_v60, main_v61] main_v62 (fun u => (concatenate S6 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩, ⟨S1, (u 4 : (⟨S1, .f32⟩ : BufTy).Contents (Elt F))⟩, ⟨S1, (u 5 : (⟨S1, .f32⟩ : BufTy).Contents (Elt F))⟩] concatenates_S1_S1_S1_S1_S1_S1_S6_d0 : (⟨S6, .f32⟩ : BufTy).Contents (Elt F))) ]

end Lists

variable (W : Valuation τ sig (Elt Ideal))

theorem x_scale : after hostOps0 W (Proc.devRef .tc main_v12) = xScale (W (Proc.devRef .tc main_arg3)) := by
  unfold xScale scaleOf rScale inRange mag row0 rowMax table0; after_reads_simp
  all_goals rfl

theorem w_scale : after hostOps0 W (Proc.devRef .tc main_v24) = wScale (W (Proc.devRef .tc main_arg3)) := by
  unfold wScale scaleOf rScale inRange mag row1 rowMax table1; after_reads_simp
  all_goals rfl

theorem dy_scale : after hostOps0 W (Proc.devRef .tc main_v36) = dyScale (W (Proc.devRef .tc main_arg3)) := by
  unfold dyScale scaleOf rScale inRange mag row2 rowMax table2; after_reads_simp
  all_goals rfl

theorem split_ops : (hostOps0 : List (HloOp τ sig (Elt Ideal))) = (hostOps0.take 59 ++ maxOps) ++ packOps := rfl

theorem split_after : after hostOps0 W = after packOps (after maxOps (after (hostOps0.take 59) W)) := by
  rw [← StableHlo.after_append, ← StableHlo.after_append, ← List.append_assoc, ← split_ops]

theorem pack_reads (V : Valuation τ sig (Elt Ideal)) : after packOps V (Proc.devRef .tc main_v62)
    = six (V (Proc.devRef .tc main_v12)) (V (Proc.devRef .tc main_v24)) (V (Proc.devRef .tc main_v36)) := by
  unfold six recip; after_reads_simp
  all_goals rfl

theorem pack_v12 (V : Valuation τ sig (Elt Ideal)) : after packOps V (Proc.devRef .tc main_v12) = V (Proc.devRef .tc main_v12) := by after_reads_simp
theorem pack_v24 (V : Valuation τ sig (Elt Ideal)) : after packOps V (Proc.devRef .tc main_v24) = V (Proc.devRef .tc main_v24) := by after_reads_simp
theorem pack_v36 (V : Valuation τ sig (Elt Ideal)) : after packOps V (Proc.devRef .tc main_v36) = V (Proc.devRef .tc main_v36) := by after_reads_simp
theorem pack_v52 (V : Valuation τ sig (Elt Ideal)) : after packOps V (Proc.devRef .tc main_v52) = V (Proc.devRef .tc main_v52) := by after_reads_simp

theorem max_reads (V : Valuation τ sig (Elt Ideal)) : after maxOps V (Proc.devRef .tc main_v52)
    = newHist (xMax (V (Proc.devRef .tc main_arg0))) (wMax (V (Proc.devRef .tc main_arg1))) (dyMax (V (Proc.devRef .tc main_arg2))) (V (Proc.devRef .tc main_arg3)) := by
  have h50 : upto maxOps V 18 (Proc.devRef .tc main_v50) = broadcastInDim S3x1 ![0] bcast_S3_S3x1_0 (concatenate S3 0
      [⟨S1, broadcastInDim S1 ![] bcast_S_S1 (xMax (V (Proc.devRef .tc main_arg0)))⟩,
      ⟨S1, broadcastInDim S1 ![] bcast_S_S1 (wMax (V (Proc.devRef .tc main_arg1)))⟩,
      ⟨S1, broadcastInDim S1 ![] bcast_S_S1 (dyMax (V (Proc.devRef .tc main_arg2)))⟩] concatenates_S1_S1_S1_S3_d0) := by
    have h46 : upto maxOps V 15 (Proc.devRef .tc main_v46) = broadcastInDim S1 ![] bcast_S_S1 (xMax (V (Proc.devRef .tc main_arg0))) := by
      unfold xMax; after_reads_simp
      all_goals rfl
    have h47 : upto maxOps V 15 (Proc.devRef .tc main_v47) = broadcastInDim S1 ![] bcast_S_S1 (wMax (V (Proc.devRef .tc main_arg1))) := by
      unfold wMax; after_reads_simp
      all_goals rfl
    have h48 : upto maxOps V 15 (Proc.devRef .tc main_v48) = broadcastInDim S1 ![] bcast_S_S1 (dyMax (V (Proc.devRef .tc main_arg2))) := by
      unfold dyMax; after_reads_simp
      all_goals rfl
    after_reads_simp
    rw [show upto maxOps V 15 (Proc.devRef .tc (![main_v46, main_v47, main_v48] 0)) = _ from h46,
      show upto maxOps V 15 (Proc.devRef .tc (![main_v46, main_v47, main_v48] 1)) = _ from h47,
      show upto maxOps V 15 (Proc.devRef .tc (![main_v46, main_v47, main_v48] 2)) = _ from h48]
    all_goals rfl
  have h51 : upto maxOps V 18 (Proc.devRef .tc main_v51) = extractStridedSlice S3x15 ![0, 0] (V (Proc.devRef .tc main_arg3)) slices_S3x16_S3x15_0_0 := by
    after_reads_simp
    all_goals rfl
  unfold newHist; after_reads_simp
  rw [h50, h51]
  all_goals rfl

theorem front_arg0 : after (hostOps0.take 59) W (Proc.devRef .tc main_arg0) = W (Proc.devRef .tc main_arg0) := by
  after_reads_simp
theorem front_arg1 : after (hostOps0.take 59) W (Proc.devRef .tc main_arg1) = W (Proc.devRef .tc main_arg1) := by
  after_reads_simp
theorem front_arg2 : after (hostOps0.take 59) W (Proc.devRef .tc main_arg2) = W (Proc.devRef .tc main_arg2) := by
  after_reads_simp
theorem front_arg3 : after (hostOps0.take 59) W (Proc.devRef .tc main_arg3) = W (Proc.devRef .tc main_arg3) := by
  after_reads_simp

theorem hist : after hostOps0 W (Proc.devRef .tc main_v52) = newHist (xMax (W (Proc.devRef .tc main_arg0))) (wMax (W (Proc.devRef .tc main_arg1))) (dyMax (W (Proc.devRef .tc main_arg2))) (W (Proc.devRef .tc main_arg3)) := by
  rw [split_after, pack_v52, max_reads, front_arg0, front_arg1, front_arg2, front_arg3]

theorem scalars : after hostOps0 W (Proc.devRef .tc main_v62) = six (xScale (W (Proc.devRef .tc main_arg3))) (wScale (W (Proc.devRef .tc main_arg3))) (dyScale (W (Proc.devRef .tc main_arg3))) := by
  rw [← x_scale, ← w_scale, ← dy_scale, split_after, pack_reads, pack_v12, pack_v24, pack_v36]

theorem lit0_eq : ∀ k : Fin 252, lit0 k = BitVec.ofNat 32 (k.val + 2) <<< 23 := by decide +kernel
theorem lit1_eq : ∀ k : Fin 252, lit1 k = BitVec.ofNat 32 (k.val + 2) <<< 23 := by decide +kernel
theorem lit2_eq : ∀ k : Fin 252, lit2 k = BitVec.ofNat 32 (k.val + 2) <<< 23 := by decide +kernel

theorem pow_at (b : BitVec 32) (k : Fin 252) (h : b = BitVec.ofNat 32 (k.val + 2) <<< 23) : Ideal.ofBits .f32 b = pow2 ((k.val : ℤ) - 125) := by
  rw [h, ofBits_pow2 (k.val + 2) (by omega) (by omega)]
  congr 1
  push_cast
  ring

theorem rm (k : Fin 252) : S252.rowMajor (ix1 k) = k := by
  exact Fin.ext (Shape.rowMajor_val_one _)

theorem table0_at (k : Fin 252) : table0 (ix1 k) = pow2 ((k.val : ℤ) - 125) := pow_at _ k (by rw [rm]; exact lit0_eq k)
theorem table1_at (k : Fin 252) : table1 (ix1 k) = pow2 ((k.val : ℤ) - 125) := pow_at _ k (by rw [rm]; exact lit1_eq k)
theorem table2_at (k : Fin 252) : table2 (ix1 k) = pow2 ((k.val : ℤ) - 125) := pow_at _ k (by rw [rm]; exact lit2_eq k)

end Cert.ReferenceIdeal.RefHost

end
-- ==== Proof.RefFlat.lean ====
/-
  The reference's arrays over the flattened shapes, in closed form.
-/
module

public import proofs.«01_k».proof.Proof.RefValue
public import proofs.«01_k».proof.Proof.RefHost
public import proofs.«01_k».proof.Proof.Common

@[expose] public section

set_option maxRecDepth 16384

noncomputable section

namespace Cert.ReferenceIdeal.RefFlat

open Idealize.ShloMosaic Idealize.ShloMosaic.TcCoe Idealize.ShloMosaic.Tactic
open Cert.ReferenceIdeal Cert.ReferenceIdeal.Gen Cert.ReferenceIdeal.RefValue Cert.ReferenceIdeal.RefHost Cert.Spec Cert.Common

theorem pay6_eq (p : Elt Ideal .f32) (x : FVec Ideal S4x6144x3200 .bf16) :
    k0_pay6 (F := Ideal) p x = codes4 (shapeCast S24576x3200 x shapeCasts_S4x6144x3200_S24576x3200) p := rfl

theorem pay7_eq (p : Elt Ideal .f32) (w : FVec Ideal S2560x3200 .bf16) : k0_pay7 (F := Ideal) p w = codes4 w p := rfl

theorem pay8_eq (p : Elt Ideal .f32) (dy : FVec Ideal S4x6144x2560 .bf16) :
    k0_pay8 (F := Ideal) p dy = codes5 (shapeCast S24576x2560 dy shapeCasts_S4x6144x2560_S24576x2560) p := rfl

theorem pay9_eq (a b p q : Elt Ideal .f32) (x : FVec Ideal S4x6144x3200 .bf16) (w : FVec Ideal S2560x3200 .bf16) :
    k0_pay9 (F := Ideal) a b p q x w
      = yF (codes4 (shapeCast S24576x3200 x shapeCasts_S4x6144x3200_S24576x3200) p) (codes4 w q) (a * b : EReal) := by
  unfold k0_pay9
  rw [pay6_eq, pay7_eq]
  generalize (codes4 (shapeCast S24576x3200 x shapeCasts_S4x6144x3200_S24576x3200) p : FVec Ideal S24576x3200 .fp8e4m3) = A,
    (codes4 w q : FVec Ideal S2560x3200 .fp8e4m3) = B
  funext i
  pointwise [yF]

theorem yOf_eq (s : FVec Ideal S6 .f32) (x : FVec Ideal S4x6144x3200 .bf16) (w : FVec Ideal S2560x3200 .bf16) (dy : FVec Ideal S4x6144x2560 .bf16) :
    yOf s x w dy = shapeCast S4x6144x2560 (yF (codes4 (shapeCast S24576x3200 x shapeCasts_S4x6144x3200_S24576x3200) (s (ix1 3))) (codes4 w (s (ix1 4)))
      (s (ix1 0) * s (ix1 1) : EReal)) shapeCasts_S24576x2560_S4x6144x2560 := by
  unfold yOf
  rw [pay9_eq]
  rfl

theorem dxOf_eq (s : FVec Ideal S6 .f32) (x : FVec Ideal S4x6144x3200 .bf16) (w : FVec Ideal S2560x3200 .bf16) (dy : FVec Ideal S4x6144x2560 .bf16) :
    dxOf s x w dy = shapeCast S4x6144x3200 (dxF (codes5 (shapeCast S24576x2560 dy shapeCasts_S4x6144x2560_S24576x2560) (s (ix1 5))) (codes4 w (s (ix1 4)))
      (s (ix1 2) * s (ix1 1) : EReal)) shapeCasts_S24576x3200_S4x6144x3200 := by
  unfold dxOf k0_pay2
  rw [pay8_eq, pay7_eq]
  generalize (codes5 (shapeCast S24576x2560 dy shapeCasts_S4x6144x2560_S24576x2560) (s (ix1 5)) : FVec Ideal S24576x2560 .fp8e5m2) = A,
    (codes4 w (s (ix1 4)) : FVec Ideal S2560x3200 .fp8e4m3) = B
  refine congrArg (fun v : FVec Ideal S24576x3200 .bf16 => shapeCast S4x6144x3200 v shapeCasts_S24576x3200_S4x6144x3200) ?_
  funext i
  pointwise [dxF]

theorem dwOf_eq (s : FVec Ideal S6 .f32) (x : FVec Ideal S4x6144x3200 .bf16) (w : FVec Ideal S2560x3200 .bf16) (dy : FVec Ideal S4x6144x2560 .bf16) :
    dwOf s x w dy = dwF (codes5 (shapeCast S24576x2560 dy shapeCasts_S4x6144x2560_S24576x2560) (s (ix1 5)))
      (codes4 (shapeCast S24576x3200 x shapeCasts_S4x6144x3200_S24576x3200) (s (ix1 3))) (s (ix1 2) * s (ix1 0) : EReal) := by
  unfold dwOf k0_pay3
  rw [pay8_eq, pay6_eq]
  generalize (codes5 (shapeCast S24576x2560 dy shapeCasts_S4x6144x2560_S24576x2560) (s (ix1 5)) : FVec Ideal S24576x2560 .fp8e5m2) = A,
    (codes4 (shapeCast S24576x3200 x shapeCasts_S4x6144x3200_S24576x3200) (s (ix1 3)) : FVec Ideal S24576x3200 .fp8e4m3) = B
  funext i
  pointwise [dwF]

/-- The six packed scalars. -/
theorem six_0 (a b c : FVec Ideal S_ .f32) : six a b c (ix1 0) = a ix0 := by pointwise [six]
theorem six_1 (a b c : FVec Ideal S_ .f32) : six a b c (ix1 1) = b ix0 := by pointwise [six]
theorem six_2 (a b c : FVec Ideal S_ .f32) : six a b c (ix1 2) = c ix0 := by pointwise [six]
theorem six_3 (a b c : FVec Ideal S_ .f32) : six a b c (ix1 3) = recip a ix0 := by pointwise [six]
theorem six_4 (a b c : FVec Ideal S_ .f32) : six a b c (ix1 4) = recip b ix0 := by pointwise [six]
theorem six_5 (a b c : FVec Ideal S_ .f32) : six a b c (ix1 5) = recip c ix0 := by pointwise [six]

theorem newHist_eq (a b c : FVec Ideal S_ .f32) (h : FVec Ideal S3x16 .f32) :
    newHist a b c h = histF (a ix0) (b ix0) (c ix0) h := by
  funext i
  pointwise [newHist, histF]
  split_ifs <;> rfl

end Cert.ReferenceIdeal.RefFlat

end
-- ==== Proof.Bridge.lean ====
/-
  The two programs' scales and new histories agree.
-/
module

public import proofs.«01_k».proof.Proof.KernelValue
public import proofs.«01_k».proof.Proof.RefFlat

@[expose] public section

set_option maxRecDepth 16384

noncomputable section

namespace Cert.Bridge

open Idealize.ShloMosaic Idealize.ShloMosaic.TcCoe Idealize.ShloMosaic.Tactic
open Cert.Spec Cert.Common

/-- The activations' scale, and one over it. -/
theorem x_scale (h : FVec Ideal TH .f32) :
    Cert.Scale.kScale (Cert.KernelIdeal.KernelValue.xE h) = Cert.ReferenceIdeal.RefHost.xScale h :=
  funext fun j => (Cert.Scale.scale_eq _ _ _ _ _ Cert.ReferenceIdeal.RefHost.table0_at _ _ j).1
theorem x_inv (h : FVec Ideal TH .f32) :
    Cert.Scale.kInv (Cert.KernelIdeal.KernelValue.xE h) = Cert.ReferenceIdeal.RefHost.recip (Cert.ReferenceIdeal.RefHost.xScale h) :=
  funext fun j => (Cert.Scale.scale_eq _ _ _ _ _ Cert.ReferenceIdeal.RefHost.table0_at _ _ j).2

/-- The weight's scale, and one over it. -/
theorem w_scale (h : FVec Ideal TH .f32) :
    Cert.Scale.kScale (Cert.KernelIdeal.KernelValue.wE h) = Cert.ReferenceIdeal.RefHost.wScale h :=
  funext fun j => (Cert.Scale.scale_eq _ _ _ _ _ Cert.ReferenceIdeal.RefHost.table1_at _ _ j).1
theorem w_inv (h : FVec Ideal TH .f32) :
    Cert.Scale.kInv (Cert.KernelIdeal.KernelValue.wE h) = Cert.ReferenceIdeal.RefHost.recip (Cert.ReferenceIdeal.RefHost.wScale h) :=
  funext fun j => (Cert.Scale.scale_eq _ _ _ _ _ Cert.ReferenceIdeal.RefHost.table1_at _ _ j).2

/-- The gradient's scale, and one over it. -/
theorem dy_scale (h : FVec Ideal TH .f32) :
    Cert.Scale.kScale (Cert.KernelIdeal.KernelValue.dyE h) = Cert.ReferenceIdeal.RefHost.dyScale h :=
  funext fun j => (Cert.Scale.scale_eq _ _ _ _ _ Cert.ReferenceIdeal.RefHost.table2_at _ _ j).1
theorem dy_inv (h : FVec Ideal TH .f32) :
    Cert.Scale.kInv (Cert.KernelIdeal.KernelValue.dyE h) = Cert.ReferenceIdeal.RefHost.recip (Cert.ReferenceIdeal.RefHost.dyScale h) :=
  funext fun j => (Cert.Scale.scale_eq _ _ _ _ _ Cert.ReferenceIdeal.RefHost.table2_at _ _ j).2

/-- A maximum over every entry of an array, started at minus infinity, is at most `z` when every entry is. -/
theorem reduce_max_le {s u : Shape} {axes : List (Fin s.rank)} (x : FVec Ideal s .f32) (init : FVec Ideal u .f32) (h : s.ReducesTo axes (⟨0, ![]⟩ : Shape)) (hu : 0 < u.numel)
    (hi : ∀ i, init i = (⊥ : EReal)) (j : (⟨0, ![]⟩ : Shape).Idx) (z : EReal) :
    ((Host.reduce FloatOps.maximumf x init h hu : FVec Ideal (⟨0, ![]⟩ : Shape) .f32) j : EReal) ≤ z ↔ ∀ i : s.Idx, (x i : EReal) ≤ z := by
  have e := Host.reduce_eq_fold (max : EReal → EReal → EReal) x init h hu j
  refine (Iff.of_eq (congrArg (fun v : EReal => v ≤ z) e)).trans ?_
  rw [Finset.fold_max_le]
  constructor
  · exact fun H i => H.2 i (Finset.mem_filter.mpr ⟨Finset.mem_univ _, funext fun a => a.elim0⟩)
  · exact fun H => ⟨(hi _).le.trans bot_le, fun i _ => H i⟩

/-- The largest magnitude started at zero is the largest magnitude started at minus infinity. -/
theorem max_eq {a b : EReal} {s : Shape} {f : s.Idx → EReal} (i : s.Idx)
    (ha : ∀ z, a ≤ z ↔ 0 ≤ z ∧ ∀ i, mag (f i) ≤ z) (hb : ∀ z, b ≤ z ↔ ∀ i, mag (f i) ≤ z) : a = b :=
  eq_of_le_iff fun z => by
    rw [ha, hb]
    exact ⟨fun H => H.2, fun H => ⟨(mag_nonneg _).trans (H i), H⟩⟩

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

open Cert.KernelIdeal.KernelValue in
theorem w_max : Cert.KernelIdeal.Region0.amax (Cert.KernelIdeal.Gen.V7 m ρ) c = Cert.ReferenceIdeal.RefHost.wMax (aW m c) ix0 := by
  refine max_eq (s := TW) (f := fun i => aW m c i) (ix2 (n0 := 2560) (n1 := 3200) 0 0) (fun z => ?_) (fun z => ?_)
  · rw [Cert.KernelIdeal.Region0.amax_le, V7_w]
  · exact reduce_max_le _ _ _ _ (fun _ => Cert.Scale.bits_bot) _ z

open Cert.KernelIdeal.KernelValue in
theorem x_max : Cert.KernelIdeal.Region1MaxX.amax_x (Cert.KernelIdeal.Gen.V9 m ρ) c = Cert.ReferenceIdeal.RefHost.xMax (aX m c) ix0 := by
  refine max_eq (s := Cert.KernelIdeal.S4x6144x3200) (f := fun i => aX m c i) (ValueIdx.ix3 (n0 := 4) (n1 := 6144) 0 0 0) (fun z => ?_) (fun z => ?_)
  · rw [Cert.KernelIdeal.Region1MaxX.amax_x_le, V9_x]
    exact and_congr Iff.rfl ((Shape.reshapeEquiv _).forall_congr_right (q := fun i => mag (aX m c i) ≤ z))
  · exact reduce_max_le _ _ _ _ (fun _ => Cert.Scale.bits_bot) _ z

open Cert.KernelIdeal.KernelValue in
theorem dy_max : Cert.KernelIdeal.Region1MaxDy.amax_dy (Cert.KernelIdeal.Gen.V9 m ρ) c = Cert.ReferenceIdeal.RefHost.dyMax (aDy m c) ix0 := by
  refine max_eq (s := Cert.KernelIdeal.S4x6144x2560) (f := fun i => aDy m c i) (ValueIdx.ix3 (n0 := 4) (n1 := 6144) 0 0 0) (fun z => ?_) (fun z => ?_)
  · rw [Cert.KernelIdeal.Region1MaxDy.amax_dy_le, V9_dy]
    exact and_congr Iff.rfl ((Shape.reshapeEquiv _).forall_congr_right (q := fun i => mag (aDy m c i) ≤ z))
  · exact reduce_max_le _ _ _ _ (fun _ => Cert.Scale.bits_bot) _ z

end Cert.Bridge

end
-- ==== Proof.RefRun.lean ====
/-
  What the reference leaves in the buffers of its ten results, as functions of its four arguments.
-/
module

public import proofs.«01_k».proof.Proof.RefFlat

@[expose] public section

set_option maxRecDepth 16384

noncomputable section

namespace Cert.ReferenceIdeal.RefRun

open Idealize.ShloMosaic Idealize.ShloMosaic.TcCoe Idealize.ShloMosaic.Tactic Idealize.SL.Sem
open Cert.ReferenceIdeal Cert.ReferenceIdeal.Gen Cert.ReferenceIdeal.Value Cert.ReferenceIdeal.RefValue Cert.ReferenceIdeal.RefHost Cert.ReferenceIdeal.RefFlat Cert.Common

variable (m : (ℓ : Loc nD τ sig) → Buf (Elt Ideal) ℓ) (ρ : Dev nD → PrngReg) (c : Dev nD)

/-- The arguments. -/
abbrev aX : FVec Ideal S4x6144x3200 .bf16 := m ((c : Thread nD τ).loc main_arg0)
abbrev aW : FVec Ideal S2560x3200 .bf16 := m ((c : Thread nD τ).loc main_arg1)
abbrev aDy : FVec Ideal S4x6144x2560 .bf16 := m ((c : Thread nD τ).loc main_arg2)
abbrev aH : FVec Ideal S3x16 .f32 := m ((c : Thread nD τ).loc main_arg3)

/-- The flattened activations and gradient. -/
abbrev fX : FVec Ideal S24576x3200 .bf16 := shapeCast S24576x3200 (aX m c) shapeCasts_S4x6144x3200_S24576x3200
abbrev fDy : FVec Ideal S24576x2560 .bf16 := shapeCast S24576x2560 (aDy m c) shapeCasts_S4x6144x2560_S24576x2560

/-- The three arrays of codes. -/
def cW : FVec Ideal S2560x3200 .fp8e4m3 := codes4 (aW m c) (recip (wScale (aH m c)) ix0)
def cX : FVec Ideal S24576x3200 .fp8e4m3 := codes4 (fX m c) (recip (xScale (aH m c)) ix0)
def cDy : FVec Ideal S24576x2560 .fp8e5m2 := codes5 (fDy m c) (recip (dyScale (aH m c)) ix0)

theorem V_s : V (F := Ideal) m c main_v62 = six (xScale (aH m c)) (wScale (aH m c)) (dyScale (aH m c)) := scalars _

theorem arr_y : (dats (F := Ideal) m 0 c).arrAt 4 cfg0.N
    = shapeCast S4x6144x2560 (yF (cX m c) (cW m c) (xScale (aH m c) ix0 * wScale (aH m c) ix0 : EReal)) shapeCasts_S24576x2560_S4x6144x2560 := by
  refine (y_eq m c).trans ?_
  rw [V_main_arg0, V_main_arg1, V_main_arg2, V_s, yOf_eq, six_0, six_1, six_3, six_4]
  rfl
theorem arr_dx : (dats (F := Ideal) m 0 c).arrAt 5 cfg0.N
    = shapeCast S4x6144x3200 (dxF (cDy m c) (cW m c) (dyScale (aH m c) ix0 * wScale (aH m c) ix0 : EReal)) shapeCasts_S24576x3200_S4x6144x3200 := by
  refine (dx_eq m c).trans ?_
  rw [V_main_arg0, V_main_arg1, V_main_arg2, V_s, dxOf_eq, six_1, six_2, six_4, six_5]
  rfl
theorem arr_dw : (dats (F := Ideal) m 0 c).arrAt 6 cfg0.N = dwF (cDy m c) (cX m c) (dyScale (aH m c) ix0 * xScale (aH m c) ix0 : EReal) := by
  refine (dw_eq m c).trans ?_
  rw [V_main_arg0, V_main_arg1, V_main_arg2, V_s, dwOf_eq, six_0, six_2, six_3, six_5]
  rfl
theorem arr_xc : (dats (F := Ideal) m 0 c).arrAt 7 cfg0.N = shapeCast S4x6144x3200 (cX m c) shapeCasts_S24576x3200_S4x6144x3200 := by
  refine (xc_eq m c).trans ?_
  rw [V_main_arg0, V_main_arg1, V_main_arg2, V_s]
  unfold xcOf
  rw [pay6_eq, six_3]
  rfl
theorem arr_wc : (dats (F := Ideal) m 0 c).arrAt 8 cfg0.N = cW m c := by
  refine (wc_eq m c).trans ?_
  rw [V_main_arg0, V_main_arg1, V_main_arg2, V_s]
  unfold wcOf
  rw [pay7_eq, six_4]
  rfl
theorem arr_dyc : (dats (F := Ideal) m 0 c).arrAt 9 cfg0.N = shapeCast S4x6144x2560 (cDy m c) shapeCasts_S24576x2560_S4x6144x2560 := by
  refine (dyc_eq m c).trans ?_
  rw [V_main_arg0, V_main_arg1, V_main_arg2, V_s]
  unfold dycOf
  rw [pay8_eq, six_5]
  rfl

theorem V_xs : V (F := Ideal) m c main_v12 = xScale (aH m c) := x_scale _
theorem V_ws : V (F := Ideal) m c main_v24 = wScale (aH m c) := w_scale _
theorem V_dys : V (F := Ideal) m c main_v36 = dyScale (aH m c) := dy_scale _
theorem V_hist : V (F := Ideal) m c main_v52 = histF (xMax (aX m c) ix0) (wMax (aW m c) ix0) (dyMax (aDy m c) ix0) (aH m c) :=
  (hist _).trans (newHist_eq _ _ _ _)

/-- Every run of the reference ends with the ten results at these values and the arguments as launched. -/
theorem run : θ_run defs (onTc (τ := τ) (main (F := Ideal))) ⟨m, fun _ => 0, ρ⟩ (fun r => ∀ c : Dev nD,
    r.2.mem ((c : Thread nD τ).loc main_v63_0)
      = shapeCast S4x6144x2560 (yF (cX m c) (cW m c) (xScale (aH m c) ix0 * wScale (aH m c) ix0 : EReal)) shapeCasts_S24576x2560_S4x6144x2560
    ∧ r.2.mem ((c : Thread nD τ).loc main_v63_1)
      = shapeCast S4x6144x3200 (dxF (cDy m c) (cW m c) (dyScale (aH m c) ix0 * wScale (aH m c) ix0 : EReal)) shapeCasts_S24576x3200_S4x6144x3200
    ∧ r.2.mem ((c : Thread nD τ).loc main_v63_2) = dwF (cDy m c) (cX m c) (dyScale (aH m c) ix0 * xScale (aH m c) ix0 : EReal)
    ∧ r.2.mem ((c : Thread nD τ).loc main_v63_3) = shapeCast S4x6144x3200 (cX m c) shapeCasts_S24576x3200_S4x6144x3200
    ∧ r.2.mem ((c : Thread nD τ).loc main_v12) = xScale (aH m c)
    ∧ r.2.mem ((c : Thread nD τ).loc main_v63_4) = cW m c
    ∧ r.2.mem ((c : Thread nD τ).loc main_v24) = wScale (aH m c)
    ∧ r.2.mem ((c : Thread nD τ).loc main_v63_5) = shapeCast S4x6144x2560 (cDy m c) shapeCasts_S24576x2560_S4x6144x2560
    ∧ r.2.mem ((c : Thread nD τ).loc main_v36) = dyScale (aH m c)
    ∧ r.2.mem ((c : Thread nD τ).loc main_v52) = histF (xMax (aX m c) ix0) (wMax (aW m c) ix0) (dyMax (aDy m c) ix0) (aH m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  θ_run_mono (run_main (F := Ideal) m ρ) fun r h c =>
    ⟨(post4 m r h c).trans (arr_y m c), (post5 m r h c).trans (arr_dx m c), (post6 m r h c).trans (arr_dw m c), (post7 m r h c).trans (arr_xc m c),
      ((h c).2 main_v12 (Pipeline.mem_restRefs_of main_v12 (by decide) (by decide))).trans (V_xs m c),
      (post8 m r h c).trans (arr_wc m c),
      ((h c).2 main_v24 (Pipeline.mem_restRefs_of main_v24 (by decide) (by decide))).trans (V_ws m c),
      (post9 m r h c).trans (arr_dyc m c),
      ((h c).2 main_v36 (Pipeline.mem_restRefs_of main_v36 (by decide) (by decide))).trans (V_dys m c),
      ((h c).2 main_v52 (Pipeline.mem_restRefs_of main_v52 (by decide) (by decide))).trans (V_hist m c),
      kept_main_arg0 m r h c, kept_main_arg1 m r h c, kept_main_arg2 m r h c, kept_main_arg3 m r h c⟩

end Cert.ReferenceIdeal.RefRun

end
-- ==== Proof.Agree.lean ====
/-
  On the same arguments the two programs leave the same ten results.
-/
module

public import proofs.«01_k».proof.Proof.Bridge
public import proofs.«01_k».proof.Proof.RefRun

@[expose] public section

set_option maxRecDepth 16384

noncomputable section

namespace Cert.Agree

open Idealize.ShloMosaic Idealize.ShloMosaic.TcCoe Idealize.ShloMosaic.Tactic
open Cert.Common Cert.Bridge
open Cert.KernelIdeal.KernelValue (aX aW aDy aH cX cW cDy)
open Cert.ReferenceIdeal.RefHost (xScale wScale dyScale recip xMax wMax dyMax)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)
variable (h0 : Cert.ReferenceIdeal.RefRun.aX m' c = aX m c) (h1 : Cert.ReferenceIdeal.RefRun.aW m' c = aW m c)
variable (h2 : Cert.ReferenceIdeal.RefRun.aDy m' c = aDy m c) (h3 : Cert.ReferenceIdeal.RefRun.aH m' c = aH m c)

include h0 h3 in
/-- The codes of the activations. -/
theorem cX_eq : Cert.ReferenceIdeal.RefRun.cX m' c = cX m c := by
  unfold Cert.ReferenceIdeal.RefRun.cX cX Cert.ReferenceIdeal.RefRun.fX
  rw [h0, h3, x_inv]

include h1 h3 in
/-- The codes of the weight. -/
theorem cW_eq : Cert.ReferenceIdeal.RefRun.cW m' c = cW m c := by
  unfold Cert.ReferenceIdeal.RefRun.cW cW
  rw [h1, h3, w_inv]

include h2 h3 in
/-- The codes of the gradient. -/
theorem cDy_eq : Cert.ReferenceIdeal.RefRun.cDy m' c = cDy m c := by
  unfold Cert.ReferenceIdeal.RefRun.cDy cDy Cert.ReferenceIdeal.RefRun.fDy
  rw [h2, h3, dy_inv]

include h3 in
/-- The three scales. -/
theorem xs_eq : xScale (Cert.ReferenceIdeal.RefRun.aH m' c) = Cert.Scale.kScale (Cert.KernelIdeal.KernelValue.xE (aH m c)) := by rw [h3, x_scale]
include h3 in
theorem ws_eq : wScale (Cert.ReferenceIdeal.RefRun.aH m' c) = Cert.Scale.kScale (Cert.KernelIdeal.KernelValue.wE (aH m c)) := by rw [h3, w_scale]
include h3 in
theorem dys_eq : dyScale (Cert.ReferenceIdeal.RefRun.aH m' c) = Cert.Scale.kScale (Cert.KernelIdeal.KernelValue.dyE (aH m c)) := by rw [h3, dy_scale]

include h0 h1 h2 h3 in
/-- The new history. -/
theorem hist_eq : histF (xMax (Cert.ReferenceIdeal.RefRun.aX m' c) ix0) (wMax (Cert.ReferenceIdeal.RefRun.aW m' c) ix0) (dyMax (Cert.ReferenceIdeal.RefRun.aDy m' c) ix0)
      (Cert.ReferenceIdeal.RefRun.aH m' c)
    = histF (Cert.KernelIdeal.Region1MaxX.amax_x (Cert.KernelIdeal.Gen.V9 m ρ) c) (Cert.KernelIdeal.Region0.amax (Cert.KernelIdeal.Gen.V7 m ρ) c)
      (Cert.KernelIdeal.Region1MaxDy.amax_dy (Cert.KernelIdeal.Gen.V9 m ρ) c) (aH m c) := by
  rw [h0, h1, h2, h3, x_max, w_max, dy_max]

include h0 h1 h3 in
/-- The product `y`. -/
theorem y_eq : yF (Cert.ReferenceIdeal.RefRun.cX m' c) (Cert.ReferenceIdeal.RefRun.cW m' c)
      (xScale (Cert.ReferenceIdeal.RefRun.aH m' c) ix0 * wScale (Cert.ReferenceIdeal.RefRun.aH m' c) ix0 : EReal)
    = yF (cX m c) (cW m c) (Cert.Scale.kScale (Cert.KernelIdeal.KernelValue.xE (aH m c)) ix0 * Cert.Scale.kScale (Cert.KernelIdeal.KernelValue.wE (aH m c)) ix0 : EReal) := by
  rw [cX_eq m m' c h0 h3, cW_eq m m' c h1 h3, xs_eq m m' c h3, ws_eq m m' c h3]

include h1 h2 h3 in
/-- The product `dx`. -/
theorem dx_eq : dxF (Cert.ReferenceIdeal.RefRun.cDy m' c) (Cert.ReferenceIdeal.RefRun.cW m' c)
      (dyScale (Cert.ReferenceIdeal.RefRun.aH m' c) ix0 * wScale (Cert.ReferenceIdeal.RefRun.aH m' c) ix0 : EReal)
    = dxF (cDy m c) (cW m c) (Cert.Scale.kScale (Cert.KernelIdeal.KernelValue.dyE (aH m c)) ix0 * Cert.Scale.kScale (Cert.KernelIdeal.KernelValue.wE (aH m c)) ix0 : EReal) := by
  rw [cDy_eq m m' c h2 h3, cW_eq m m' c h1 h3, dys_eq m m' c h3, ws_eq m m' c h3]

include h0 h2 h3 in
/-- The product `dw`. -/
theorem dw_eq : dwF (Cert.ReferenceIdeal.RefRun.cDy m' c) (Cert.ReferenceIdeal.RefRun.cX m' c)
      (dyScale (Cert.ReferenceIdeal.RefRun.aH m' c) ix0 * xScale (Cert.ReferenceIdeal.RefRun.aH m' c) ix0 : EReal)
    = dwF (cDy m c) (cX m c) (Cert.Scale.kScale (Cert.KernelIdeal.KernelValue.dyE (aH m c)) ix0 * Cert.Scale.kScale (Cert.KernelIdeal.KernelValue.xE (aH m c)) ix0 : EReal) := by
  rw [cDy_eq m m' c h2 h3, cX_eq m m' c h0 h3, dys_eq m m' c h3, xs_eq m m' c h3]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelRun
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- On the same arguments every run of the kernel and every run of the reference end with the same ten results, the arguments as launched. -/
theorem algebraic : Cert.algebraic_KernelIdeal_ReferenceIdeal := by
  intro m g m' g' _ hargs
  have h0 : ∀ c, Cert.ReferenceIdeal.RefRun.aX m' c = Cert.KernelIdeal.KernelValue.aX m c := fun c => (hargs c).1
  have h1 : ∀ c, Cert.ReferenceIdeal.RefRun.aW m' c = Cert.KernelIdeal.KernelValue.aW m c := fun c => (hargs c).2.1
  have h2 : ∀ c, Cert.ReferenceIdeal.RefRun.aDy m' c = Cert.KernelIdeal.KernelValue.aDy m c := fun c => (hargs c).2.2.1
  have h3 : ∀ c, Cert.ReferenceIdeal.RefRun.aH m' c = Cert.KernelIdeal.KernelValue.aH m c := fun c => (hargs c).2.2.2
  refine ⟨fun c => Cert.KernelIdeal.Gen.W13 (F := Ideal) m g c (Proc.devRef .tc Cert.KernelIdeal.main_v103),
    fun c => Cert.KernelIdeal.Gen.W13 (F := Ideal) m g c (Proc.devRef .tc Cert.KernelIdeal.main_v104),
    fun c => Cert.KernelIdeal.Gen.W13 (F := Ideal) m g c (Proc.devRef .tc Cert.KernelIdeal.main_v99),
    fun c => Cert.KernelIdeal.Gen.W13 (F := Ideal) m g c (Proc.devRef .tc Cert.KernelIdeal.main_v105),
    fun c => Cert.KernelIdeal.Gen.W13 (F := Ideal) m g c (Proc.devRef .tc Cert.KernelIdeal.main_v24),
    fun c => Cert.KernelIdeal.Gen.W13 (F := Ideal) m g c (Proc.devRef .tc Cert.KernelIdeal.main_v86_0),
    fun c => Cert.KernelIdeal.Gen.W13 (F := Ideal) m g c (Proc.devRef .tc Cert.KernelIdeal.main_v52),
    fun c => Cert.KernelIdeal.Gen.W13 (F := Ideal) m g c (Proc.devRef .tc Cert.KernelIdeal.main_v106),
    fun c => Cert.KernelIdeal.Gen.W13 (F := Ideal) m g c (Proc.devRef .tc Cert.KernelIdeal.main_v80),
    fun c => Cert.KernelIdeal.Gen.W13 (F := Ideal) m g c (Proc.devRef .tc Cert.KernelIdeal.main_v102), ?_, ?_⟩
  · refine θ_run_mono (Cert.KernelIdeal.KernelRun.run (F := Ideal) m g) fun r h c => ⟨h c (Proc.devRef .tc Cert.KernelIdeal.main_v103) (by decide),
      h c (Proc.devRef .tc Cert.KernelIdeal.main_v104) (by decide),
      h c (Proc.devRef .tc Cert.KernelIdeal.main_v99) (by decide),
      h c (Proc.devRef .tc Cert.KernelIdeal.main_v105) (by decide),
      h c (Proc.devRef .tc Cert.KernelIdeal.main_v24) (by decide),
      h c (Proc.devRef .tc Cert.KernelIdeal.main_v86_0) (by decide),
      h c (Proc.devRef .tc Cert.KernelIdeal.main_v52) (by decide),
      h c (Proc.devRef .tc Cert.KernelIdeal.main_v106) (by decide),
      h c (Proc.devRef .tc Cert.KernelIdeal.main_v80) (by decide),
      h c (Proc.devRef .tc Cert.KernelIdeal.main_v102) (by decide),
      (h c (Proc.devRef .tc Cert.KernelIdeal.main_arg0) (by decide)).trans (Cert.KernelIdeal.Gen.W13_main_arg0 m g c),
      (h c (Proc.devRef .tc Cert.KernelIdeal.main_arg1) (by decide)).trans (Cert.KernelIdeal.Gen.W13_main_arg1 m g c),
      (h c (Proc.devRef .tc Cert.KernelIdeal.main_arg2) (by decide)).trans (Cert.KernelIdeal.Gen.W13_main_arg2 m g c),
      (h c (Proc.devRef .tc Cert.KernelIdeal.main_arg3) (by decide)).trans (Cert.KernelIdeal.Gen.W13_main_arg3 m g c)⟩
  · refine θ_run_mono (Cert.ReferenceIdeal.RefRun.run m' g') fun r h c => ?_
    obtain ⟨e0, e1, e2, e3, e4, e5, e6, e7, e8, e9, k⟩ := h c
    exact ⟨(e0.trans (congrArg (fun v : FVec Ideal Cert.Common.TY .bf16 => shapeCast Cert.KernelIdeal.S4x6144x2560 v (by decide +kernel))
          (Cert.Agree.y_eq m m' c (h0 c) (h1 c) (h3 c)))).trans (Cert.KernelIdeal.KernelValue.res_y m g c).symm,
      (e1.trans (congrArg (fun v : FVec Ideal Cert.Common.TX .bf16 => shapeCast Cert.KernelIdeal.S4x6144x3200 v (by decide +kernel))
          (Cert.Agree.dx_eq m m' c (h1 c) (h2 c) (h3 c)))).trans (Cert.KernelIdeal.KernelValue.res_dx m g c).symm,
      (e2.trans (Cert.Agree.dw_eq m m' c (h0 c) (h2 c) (h3 c))).trans (Cert.KernelIdeal.KernelValue.res_dw m g c).symm,
      (e3.trans (congrArg (fun v : FVec Ideal Cert.Common.TX .fp8e4m3 => shapeCast Cert.KernelIdeal.S4x6144x3200 v (by decide +kernel))
          (Cert.Agree.cX_eq m m' c (h0 c) (h3 c)))).trans (Cert.KernelIdeal.KernelValue.res_xc m g c).symm,
      (e4.trans (Cert.Agree.xs_eq m m' c (h3 c))).trans (Cert.KernelIdeal.KernelValue.res_xs m g c).symm,
      (e5.trans (Cert.Agree.cW_eq m m' c (h1 c) (h3 c))).trans (Cert.KernelIdeal.KernelValue.res_wc m g c).symm,
      (e6.trans (Cert.Agree.ws_eq m m' c (h3 c))).trans (Cert.KernelIdeal.KernelValue.res_ws m g c).symm,
      (e7.trans (congrArg (fun v : FVec Ideal Cert.Common.TY .fp8e5m2 => shapeCast Cert.KernelIdeal.S4x6144x2560 v (by decide +kernel))
          (Cert.Agree.cDy_eq m m' c (h2 c) (h3 c)))).trans (Cert.KernelIdeal.KernelValue.res_dyc m g c).symm,
      (e8.trans (Cert.Agree.dys_eq m m' c (h3 c))).trans (Cert.KernelIdeal.KernelValue.res_dys m g c).symm,
      (e9.trans (Cert.Agree.hist_eq m g m' c (h0 c) (h1 c) (h2 c) (h3 c))).trans (Cert.KernelIdeal.KernelValue.res_hist m g c).symm, k⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, algebraic⟩

end Cert.Proof

end
